-- ==== Defs.lean ====
def Pre_Kernel [hPre_swap_Kernel : Cert.Pre_swap_Kernel.Facts] (m : (ℓ : Loc Cert.Kernel.nD Cert.Kernel.τ Cert.Kernel.sig) → Buf (Elt Bits) ℓ) : Prop :=
  ∀ c : Dev Cert.Kernel.nD,
    (Cert.Pre_swap_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swap_Kernel : Cert.Pre_swap_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swap_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swap_ReferenceIdeal [hPre_swap_ReferenceIdeal : Cert.Pre_swap_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swap_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swap_Kernel : Cert.Pre_swap_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swap_Kernel : Cert.Pre_swap_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swap_ReferenceIdeal [hReferenceIdeal : Cert.ReferenceIdeal.Facts] [hPre_swap_ReferenceIdeal : Cert.Pre_swap_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swap_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swap_Kernel : Cert.Pre_swap_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 2048]⟩ ⟨2, ![8192, 2048]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swap_Kernel : Cert.Pre_swap_Kernel.Facts) (hPre_swap_ReferenceIdeal : Cert.Pre_swap_ReferenceIdeal.Facts),
    quiescent_Kernel (hKernel := hKernel) (hPre_swap_Kernel := hPre_swap_Kernel)
    ∧ quiescent_KernelIdeal (hKernelIdeal := hKernelIdeal) (hPre_swap_Kernel := hPre_swap_Kernel)
    ∧ quiescent_ReferenceIdeal (hReferenceIdeal := hReferenceIdeal)
    ∧ quiescent_ReferenceIdeal_pre_swap_ReferenceIdeal (hReferenceIdeal := hReferenceIdeal) (hPre_swap_ReferenceIdeal := hPre_swap_ReferenceIdeal)
    ∧ preserves_Kernel_KernelIdeal
    ∧ algebraic_KernelIdeal_ReferenceIdeal (hKernelIdeal := hKernelIdeal) (hReferenceIdeal := hReferenceIdeal) (hPre_swap_Kernel := hPre_swap_Kernel)
-- ==== Pre_swap_Kernel.lean ====
abbrev S4096x2048 : Shape := ⟨2, ![4096, 2048]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S4096x2048 .f32) (main_arg1 : IVec S2 32) : IVec S2 1 :=
  let main_c : IVec S2 32 := fun i => lit0 (S2.rowMajor i)
  let main_v0 : IVec S2 1 := cmpi .eq main_arg1 main_c
  main_v0
-- ==== Pre_swap_ReferenceIdeal.lean ====
abbrev S8192x2048 : Shape := ⟨2, ![8192, 2048]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S8192x2048 .f32) (main_arg1 : IVec S2 32) : IVec S2 1 :=
  let main_c : IVec S2 32 := fun i => lit0 (S2.rowMajor i)
  let main_v0 : IVec S2 1 := cmpi .eq main_arg1 main_c
  main_v0
-- ==== Kernel.lean ====
abbrev S4096x2048 : Shape := ⟨2, ![4096, 2048]⟩
abbrev S2 : Shape := ⟨1, ![2]⟩
abbrev S2x512x2048 : Shape := ⟨3, ![2, 512, 2048]⟩
abbrev S8x2048 : Shape := ⟨2, ![8, 2048]⟩
abbrev S8 : Shape := ⟨1, ![8]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩
abbrev S2048 : Shape := ⟨1, ![2048]⟩
abbrev S1x2048 : Shape := ⟨2, ![1, 2048]⟩

abbrev nBuf : Space → Nat
  | .hbm => 3
  | .vmem => 6
  | .smem => 1
  | _ => 0

abbrev bufTy : (tb : Table) → Fin (tcTables nBuf tb) → BufTy
  | .hbm, ⟨0, _⟩ => ⟨S4096x2048, .f32⟩
  | .hbm, ⟨1, _⟩ => ⟨S2, .i32⟩
  | .hbm, ⟨2, _⟩ => ⟨S4096x2048, .f32⟩
  | .local _ .vmem, ⟨0, _⟩ => ⟨S2x512x2048, .f32⟩
  | .local _ .vmem, ⟨1, _⟩ => ⟨S2x512x2048, .f32⟩
  | .local _ .vmem, ⟨2, _⟩ => ⟨S4096x2048, .i8⟩
  | .local _ .vmem, ⟨3, _⟩ => ⟨S4096x2048, .i8⟩
  | .local _ .vmem, ⟨4, _⟩ => ⟨S8x2048, .f32⟩
  | .local _ .vmem, ⟨5, _⟩ => ⟨S8x2048, .f32⟩
  | .local _ .smem, ⟨0, _⟩ => ⟨S2, .i32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_stg0_0 : Ref sig .tc := ⟨.smem, 0, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : Index := Scalar.indexCast v2
  ![v9.toNat]
def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_3 v2
  let c4_i32_5 : BitVec 32 := 4#32
  let v13 : BitVec 32 := Scalar.muli v12 c4_i32_5
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v15 : BitVec 32 := Scalar.muli v5 c2_i32_6
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v17 : BitVec 32 := Scalar.muli v8 c1_i32_7
  let v18 : BitVec 32 := Scalar.addi v16 v17
  v18.toNat
def k0_dev2 (d0 : Dev nD) (v10 : BitVec 32) : Nat :=
  let c0_i32_40 : BitVec 32 := 0#32
  let c4_i32_39 : BitVec 32 := 4#32
  let v61 : BitVec 32 := Scalar.muli v10 c4_i32_39
  let v62 : BitVec 32 := Scalar.addi c0_i32_40 v61
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_41 : BitVec 32 := 2#32
  let v63 : BitVec 32 := Scalar.muli v5 c2_i32_41
  let v64 : BitVec 32 := Scalar.addi v62 v63
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_42 : BitVec 32 := 1#32
  let v65 : BitVec 32 := Scalar.muli v8 c1_i32_42
  let v66 : BitVec 32 := Scalar.addi v64 v65
  v66.toNat
def k0_cond1 (d0 : Dev nD) (v10 : BitVec 32) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 1 := Scalar.cmpi .ne v10 v2
  let v20 : BitVec 32 := Scalar.extui v19
  let c0_i32_9 : BitVec 32 := 0#32
  let v21 : BitVec 1 := Scalar.cmpi .ne v20 c0_i32_9
  v21

def k0_dev3 (d0 : Dev nD) (v10 : BitVec 32) : Nat :=
  let c0_i32_50 : BitVec 32 := 0#32
  let c4_i32_49 : BitVec 32 := 4#32
  let v73 : BitVec 32 := Scalar.muli v10 c4_i32_49
  let v74 : BitVec 32 := Scalar.addi c0_i32_50 v73
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v75 : BitVec 32 := Scalar.muli v5 c2_i32_51
  let v76 : BitVec 32 := Scalar.addi v74 v75
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v77 : BitVec 32 := Scalar.muli v8 c1_i32_52
  let v78 : BitVec 32 := Scalar.addi v76 v77
  v78.toNat
def k0_dev4 (d0 : Dev nD) (v10 : BitVec 32) : Nat :=
  let c0_i32_80 : BitVec 32 := 0#32
  let c4_i32_79 : BitVec 32 := 4#32
  let v116 : BitVec 32 := Scalar.muli v10 c4_i32_79
  let v117 : BitVec 32 := Scalar.addi c0_i32_80 v116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_81 : BitVec 32 := 2#32
  let v118 : BitVec 32 := Scalar.muli v5 c2_i32_81
  let v119 : BitVec 32 := Scalar.addi v117 v118
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v120 : BitVec 32 := Scalar.muli v8 c1_i32_82
  let v121 : BitVec 32 := Scalar.addi v119 v120
  v121.toNat
def k0_dev5 (d0 : Dev nD) (v10 : BitVec 32) : Nat :=
  let c0_i32_90 : BitVec 32 := 0#32
  let c4_i32_89 : BitVec 32 := 4#32
  let v128 : BitVec 32 := Scalar.muli v10 c4_i32_89
  let v129 : BitVec 32 := Scalar.addi c0_i32_90 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_91 : BitVec 32 := 2#32
  let v130 : BitVec 32 := Scalar.muli v5 c2_i32_91
  let v131 : BitVec 32 := Scalar.addi v129 v130
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v132 : BitVec 32 := Scalar.muli v8 c1_i32_92
  let v133 : BitVec 32 := Scalar.addi v131 v132
  v133.toNat
def k0_dev6 (d0 : Dev nD) (v10 : BitVec 32) : Nat :=
  let c0_i32_120 : BitVec 32 := 0#32
  let c4_i32_119 : BitVec 32 := 4#32
  let v171 : BitVec 32 := Scalar.muli v10 c4_i32_119
  let v172 : BitVec 32 := Scalar.addi c0_i32_120 v171
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_121 : BitVec 32 := 2#32
  let v173 : BitVec 32 := Scalar.muli v5 c2_i32_121
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v175 : BitVec 32 := Scalar.muli v8 c1_i32_122
  let v176 : BitVec 32 := Scalar.addi v174 v175
  v176.toNat
def k0_dev7 (d0 : Dev nD) (v10 : BitVec 32) : Nat :=
  let c0_i32_130 : BitVec 32 := 0#32
  let c4_i32_129 : BitVec 32 := 4#32
  let v183 : BitVec 32 := Scalar.muli v10 c4_i32_129
  let v184 : BitVec 32 := Scalar.addi c0_i32_130 v183
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_131 : BitVec 32 := 2#32
  let v185 : BitVec 32 := Scalar.muli v5 c2_i32_131
  let v186 : BitVec 32 := Scalar.addi v184 v185
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_132 : BitVec 32 := 1#32
  let v187 : BitVec 32 := Scalar.muli v8 c1_i32_132
  let v188 : BitVec 32 := Scalar.addi v186 v187
  v188.toNat
def k0_dev8 (d0 : Dev nD) (v10 : BitVec 32) : Nat :=
  let c0_i32_159 : BitVec 32 := 0#32
  let c4_i32_158 : BitVec 32 := 4#32
  let v226 : BitVec 32 := Scalar.muli v10 c4_i32_158
  let v227 : BitVec 32 := Scalar.addi c0_i32_159 v226
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_160 : BitVec 32 := 2#32
  let v228 : BitVec 32 := Scalar.muli v5 c2_i32_160
  let v229 : BitVec 32 := Scalar.addi v227 v228
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_161 : BitVec 32 := 1#32
  let v230 : BitVec 32 := Scalar.muli v8 c1_i32_161
  let v231 : BitVec 32 := Scalar.addi v229 v230
  v231.toNat
def k0_dev9 (d0 : Dev nD) (v10 : BitVec 32) : Nat :=
  let c0_i32_169 : BitVec 32 := 0#32
  let c4_i32_168 : BitVec 32 := 4#32
  let v238 : BitVec 32 := Scalar.muli v10 c4_i32_168
  let v239 : BitVec 32 := Scalar.addi c0_i32_169 v238
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_170 : BitVec 32 := 2#32
  let v240 : BitVec 32 := Scalar.muli v5 c2_i32_170
  let v241 : BitVec 32 := Scalar.addi v239 v240
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_171 : BitVec 32 := 1#32
  let v242 : BitVec 32 := Scalar.muli v8 c1_i32_171
  let v243 : BitVec 32 := Scalar.addi v241 v242
  v243.toNat
def k0_dev10 (d0 : Dev nD) (v10 : BitVec 32) : Nat :=
  let c0_i32_199 : BitVec 32 := 0#32
  let c4_i32_198 : BitVec 32 := 4#32
  let v281 : BitVec 32 := Scalar.muli v10 c4_i32_198
  let v282 : BitVec 32 := Scalar.addi c0_i32_199 v281
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_200 : BitVec 32 := 2#32
  let v283 : BitVec 32 := Scalar.muli v5 c2_i32_200
  let v284 : BitVec 32 := Scalar.addi v282 v283
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_201 : BitVec 32 := 1#32
  let v285 : BitVec 32 := Scalar.muli v8 c1_i32_201
  let v286 : BitVec 32 := Scalar.addi v284 v285
  v286.toNat
def k0_dev11 (d0 : Dev nD) (v10 : BitVec 32) : Nat :=
  let c0_i32_209 : BitVec 32 := 0#32
  let c4_i32_208 : BitVec 32 := 4#32
  let v293 : BitVec 32 := Scalar.muli v10 c4_i32_208
  let v294 : BitVec 32 := Scalar.addi c0_i32_209 v293
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_210 : BitVec 32 := 2#32
  let v295 : BitVec 32 := Scalar.muli v5 c2_i32_210
  let v296 : BitVec 32 := Scalar.addi v294 v295
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_211 : BitVec 32 := 1#32
  let v297 : BitVec 32 := Scalar.muli v8 c1_i32_211
  let v298 : BitVec 32 := Scalar.addi v296 v297
  v298.toNat
def k0_dev12 (d0 : Dev nD) (v10 : BitVec 32) : Nat :=
  let c0_i32_238 : BitVec 32 := 0#32
  let c4_i32_237 : BitVec 32 := 4#32
  let v336 : BitVec 32 := Scalar.muli v10 c4_i32_237
  let v337 : BitVec 32 := Scalar.addi c0_i32_238 v336
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_239 : BitVec 32 := 2#32
  let v338 : BitVec 32 := Scalar.muli v5 c2_i32_239
  let v339 : BitVec 32 := Scalar.addi v337 v338
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_240 : BitVec 32 := 1#32
  let v340 : BitVec 32 := Scalar.muli v8 c1_i32_240
  let v341 : BitVec 32 := Scalar.addi v339 v340
  v341.toNat
def k0_dev13 (d0 : Dev nD) (v10 : BitVec 32) : Nat :=
  let c0_i32_248 : BitVec 32 := 0#32
  let c4_i32_247 : BitVec 32 := 4#32
  let v348 : BitVec 32 := Scalar.muli v10 c4_i32_247
  let v349 : BitVec 32 := Scalar.addi c0_i32_248 v348
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_249 : BitVec 32 := 2#32
  let v350 : BitVec 32 := Scalar.muli v5 c2_i32_249
  let v351 : BitVec 32 := Scalar.addi v349 v350
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_250 : BitVec 32 := 1#32
  let v352 : BitVec 32 := Scalar.muli v8 c1_i32_250
  let v353 : BitVec 32 := Scalar.addi v351 v352
  v353.toNat
def k0_dev14 (d0 : Dev nD) (v10 : BitVec 32) : Nat :=
  let c0_i32_277 : BitVec 32 := 0#32
  let c4_i32_276 : BitVec 32 := 4#32
  let v391 : BitVec 32 := Scalar.muli v10 c4_i32_276
  let v392 : BitVec 32 := Scalar.addi c0_i32_277 v391
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_278 : BitVec 32 := 2#32
  let v393 : BitVec 32 := Scalar.muli v5 c2_i32_278
  let v394 : BitVec 32 := Scalar.addi v392 v393
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_279 : BitVec 32 := 1#32
  let v395 : BitVec 32 := Scalar.muli v8 c1_i32_279
  let v396 : BitVec 32 := Scalar.addi v394 v395
  v396.toNat
def k0_dev15 (d0 : Dev nD) (v10 : BitVec 32) : Nat :=
  let c0_i32_287 : BitVec 32 := 0#32
  let c4_i32_286 : BitVec 32 := 4#32
  let v403 : BitVec 32 := Scalar.muli v10 c4_i32_286
  let v404 : BitVec 32 := Scalar.addi c0_i32_287 v403
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_288 : BitVec 32 := 2#32
  let v405 : BitVec 32 := Scalar.muli v5 c2_i32_288
  let v406 : BitVec 32 := Scalar.addi v404 v405
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_289 : BitVec 32 := 1#32
  let v407 : BitVec 32 := Scalar.muli v8 c1_i32_289
  let v408 : BitVec 32 := Scalar.addi v406 v407
  v408.toNat
def k0_dev16 (d0 : Dev nD) (v10 : BitVec 32) : Nat :=
  let c0_i32_311 : BitVec 32 := 0#32
  let c4_i32_310 : BitVec 32 := 4#32
  let v441 : BitVec 32 := Scalar.muli v10 c4_i32_310
  let v442 : BitVec 32 := Scalar.addi c0_i32_311 v441
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_312 : BitVec 32 := 2#32
  let v443 : BitVec 32 := Scalar.muli v5 c2_i32_312
  let v444 : BitVec 32 := Scalar.addi v442 v443
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_313 : BitVec 32 := 1#32
  let v445 : BitVec 32 := Scalar.muli v8 c1_i32_313
  let v446 : BitVec 32 := Scalar.addi v444 v445
  v446.toNat
def k0_dev17 (d0 : Dev nD) (v10 : BitVec 32) : Nat :=
  let c0_i32_321 : BitVec 32 := 0#32
  let c4_i32_320 : BitVec 32 := 4#32
  let v453 : BitVec 32 := Scalar.muli v10 c4_i32_320
  let v454 : BitVec 32 := Scalar.addi c0_i32_321 v453
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_322 : BitVec 32 := 2#32
  let v455 : BitVec 32 := Scalar.muli v5 c2_i32_322
  let v456 : BitVec 32 := Scalar.addi v454 v455
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_323 : BitVec 32 := 1#32
  let v457 : BitVec 32 := Scalar.muli v8 c1_i32_323
  let v458 : BitVec 32 := Scalar.addi v456 v457
  v458.toNat

def k0_chk1 (d0 : Dev nD) (v10 : BitVec 32) : Prop :=
  (∀ (k0_h1 : k0_cond1 d0 v10 = 1#1), (k0_dev2 d0 v10) < nD) ∧
  (∀ (k0_h1 : k0_cond1 d0 v10 = 1#1), (k0_dev3 d0 v10) < nD) ∧
  (∀ (k0_h1 : k0_cond1 d0 v10 = 1#1), (k0_dev4 d0 v10) < nD) ∧
  (∀ (k0_h1 : k0_cond1 d0 v10 = 1#1), (k0_dev5 d0 v10) < nD) ∧
  (∀ (k0_h1 : k0_cond1 d0 v10 = 1#1), (k0_dev6 d0 v10) < nD) ∧
  (∀ (k0_h1 : k0_cond1 d0 v10 = 1#1), (k0_dev7 d0 v10) < nD) ∧
  (∀ (k0_h1 : k0_cond1 d0 v10 = 1#1), (k0_dev8 d0 v10) < nD) ∧
  (∀ (k0_h1 : k0_cond1 d0 v10 = 1#1), (k0_dev9 d0 v10) < nD) ∧
  (∀ (k0_h1 : k0_cond1 d0 v10 = 1#1), (k0_dev10 d0 v10) < nD) ∧
  (∀ (k0_h1 : k0_cond1 d0 v10 = 1#1), (k0_dev11 d0 v10) < nD) ∧
  (∀ (k0_h1 : k0_cond1 d0 v10 = 1#1), (k0_dev12 d0 v10) < nD) ∧
  (∀ (k0_h1 : k0_cond1 d0 v10 = 1#1), (k0_dev13 d0 v10) < nD) ∧
  (∀ (k0_h1 : k0_cond1 d0 v10 = 1#1), (k0_dev14 d0 v10) < nD) ∧
  (∀ (k0_h1 : k0_cond1 d0 v10 = 1#1), (k0_dev15 d0 v10) < nD) ∧
  (∀ (k0_h1 : k0_cond1 d0 v10 = 1#1), (k0_dev16 d0 v10) < nD) ∧
  (∀ (k0_h1 : k0_cond1 d0 v10 = 1#1), (k0_dev17 d0 v10) < nD)
theorem k0_dev2_lt : ∀ (d0 : Dev nD) (v10 : BitVec 32) (k0_hw1 : k0_chk1 d0 v10), ∀ (k0_h1 : k0_cond1 d0 v10 = 1#1), (k0_dev2 d0 v10) < nD := fun d0 v10 k0_hw1 k0_h1 => k0_hw1.1 k0_h1
theorem k0_dev3_lt : ∀ (d0 : Dev nD) (v10 : BitVec 32) (k0_hw1 : k0_chk1 d0 v10), ∀ (k0_h1 : k0_cond1 d0 v10 = 1#1), (k0_dev3 d0 v10) < nD := fun d0 v10 k0_hw1 k0_h1 => k0_hw1.2.1 k0_h1
theorem k0_dev4_lt : ∀ (d0 : Dev nD) (v10 : BitVec 32) (k0_hw1 : k0_chk1 d0 v10), ∀ (k0_h1 : k0_cond1 d0 v10 = 1#1), (k0_dev4 d0 v10) < nD := fun d0 v10 k0_hw1 k0_h1 => k0_hw1.2.2.1 k0_h1
theorem k0_dev5_lt : ∀ (d0 : Dev nD) (v10 : BitVec 32) (k0_hw1 : k0_chk1 d0 v10), ∀ (k0_h1 : k0_cond1 d0 v10 = 1#1), (k0_dev5 d0 v10) < nD := fun d0 v10 k0_hw1 k0_h1 => k0_hw1.2.2.2.1 k0_h1
theorem k0_dev6_lt : ∀ (d0 : Dev nD) (v10 : BitVec 32) (k0_hw1 : k0_chk1 d0 v10), ∀ (k0_h1 : k0_cond1 d0 v10 = 1#1), (k0_dev6 d0 v10) < nD := fun d0 v10 k0_hw1 k0_h1 => k0_hw1.2.2.2.2.1 k0_h1
theorem k0_dev7_lt : ∀ (d0 : Dev nD) (v10 : BitVec 32) (k0_hw1 : k0_chk1 d0 v10), ∀ (k0_h1 : k0_cond1 d0 v10 = 1#1), (k0_dev7 d0 v10) < nD := fun d0 v10 k0_hw1 k0_h1 => k0_hw1.2.2.2.2.2.1 k0_h1
theorem k0_dev8_lt : ∀ (d0 : Dev nD) (v10 : BitVec 32) (k0_hw1 : k0_chk1 d0 v10), ∀ (k0_h1 : k0_cond1 d0 v10 = 1#1), (k0_dev8 d0 v10) < nD := fun d0 v10 k0_hw1 k0_h1 => k0_hw1.2.2.2.2.2.2.1 k0_h1
theorem k0_dev9_lt : ∀ (d0 : Dev nD) (v10 : BitVec 32) (k0_hw1 : k0_chk1 d0 v10), ∀ (k0_h1 : k0_cond1 d0 v10 = 1#1), (k0_dev9 d0 v10) < nD := fun d0 v10 k0_hw1 k0_h1 => k0_hw1.2.2.2.2.2.2.2.1 k0_h1
theorem k0_dev10_lt : ∀ (d0 : Dev nD) (v10 : BitVec 32) (k0_hw1 : k0_chk1 d0 v10), ∀ (k0_h1 : k0_cond1 d0 v10 = 1#1), (k0_dev10 d0 v10) < nD := fun d0 v10 k0_hw1 k0_h1 => k0_hw1.2.2.2.2.2.2.2.2.1 k0_h1
theorem k0_dev11_lt : ∀ (d0 : Dev nD) (v10 : BitVec 32) (k0_hw1 : k0_chk1 d0 v10), ∀ (k0_h1 : k0_cond1 d0 v10 = 1#1), (k0_dev11 d0 v10) < nD := fun d0 v10 k0_hw1 k0_h1 => k0_hw1.2.2.2.2.2.2.2.2.2.1 k0_h1
theorem k0_dev12_lt : ∀ (d0 : Dev nD) (v10 : BitVec 32) (k0_hw1 : k0_chk1 d0 v10), ∀ (k0_h1 : k0_cond1 d0 v10 = 1#1), (k0_dev12 d0 v10) < nD := fun d0 v10 k0_hw1 k0_h1 => k0_hw1.2.2.2.2.2.2.2.2.2.2.1 k0_h1
theorem k0_dev13_lt : ∀ (d0 : Dev nD) (v10 : BitVec 32) (k0_hw1 : k0_chk1 d0 v10), ∀ (k0_h1 : k0_cond1 d0 v10 = 1#1), (k0_dev13 d0 v10) < nD := fun d0 v10 k0_hw1 k0_h1 => k0_hw1.2.2.2.2.2.2.2.2.2.2.2.1 k0_h1
theorem k0_dev14_lt : ∀ (d0 : Dev nD) (v10 : BitVec 32) (k0_hw1 : k0_chk1 d0 v10), ∀ (k0_h1 : k0_cond1 d0 v10 = 1#1), (k0_dev14 d0 v10) < nD := fun d0 v10 k0_hw1 k0_h1 => k0_hw1.2.2.2.2.2.2.2.2.2.2.2.2.1 k0_h1
theorem k0_dev15_lt : ∀ (d0 : Dev nD) (v10 : BitVec 32) (k0_hw1 : k0_chk1 d0 v10), ∀ (k0_h1 : k0_cond1 d0 v10 = 1#1), (k0_dev15 d0 v10) < nD := fun d0 v10 k0_hw1 k0_h1 => k0_hw1.2.2.2.2.2.2.2.2.2.2.2.2.2.1 k0_h1
theorem k0_dev16_lt : ∀ (d0 : Dev nD) (v10 : BitVec 32) (k0_hw1 : k0_chk1 d0 v10), ∀ (k0_h1 : k0_cond1 d0 v10 = 1#1), (k0_dev16 d0 v10) < nD := fun d0 v10 k0_hw1 k0_h1 => k0_hw1.2.2.2.2.2.2.2.2.2.2.2.2.2.2.1 k0_h1
theorem k0_dev17_lt : ∀ (d0 : Dev nD) (v10 : BitVec 32) (k0_hw1 : k0_chk1 d0 v10), ∀ (k0_h1 : k0_cond1 d0 v10 = 1#1), (k0_dev17 d0 v10) < nD := fun d0 v10 k0_hw1 k0_h1 => k0_hw1.2.2.2.2.2.2.2.2.2.2.2.2.2.2.2 k0_h1

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x2048 : Shape := ⟨2, ![8192, 2048]⟩
abbrev S2 : Shape := ⟨1, ![2]⟩
abbrev S2x8x512x2048 : Shape := ⟨4, ![2, 8, 512, 2048]⟩
abbrev S_ : Shape := ⟨0, ![]⟩
abbrev S2x8x2048 : Shape := ⟨3, ![2, 8, 2048]⟩
abbrev S2x8x1x2048 : Shape := ⟨4, ![2, 8, 1, 2048]⟩
abbrev S2x1 : Shape := ⟨2, ![2, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2, .i32⟩
  | .hbm, ⟨2, _⟩ => ⟨S2x8x512x2048, .f32⟩
  | .hbm, ⟨3, _⟩ => ⟨S2x8x512x2048, .f32⟩
  | .hbm, ⟨4, _⟩ => ⟨S_, .f32⟩
  | .hbm, ⟨5, _⟩ => ⟨S2x8x2048, .f32⟩
  | .hbm, ⟨6, _⟩ => ⟨S2x8x1x2048, .f32⟩
  | .hbm, ⟨7, _⟩ => ⟨S_, .f32⟩
  | .hbm, ⟨8, _⟩ => ⟨S2x8x1x2048, .f32⟩
  | .hbm, ⟨9, _⟩ => ⟨S2x8x1x2048, .f32⟩
  | .hbm, ⟨10, _⟩ => ⟨S_, .f32⟩
  | .hbm, ⟨11, _⟩ => ⟨S2x8x1x2048, .f32⟩
  | .hbm, ⟨12, _⟩ => ⟨S2x8x1x2048, .f32⟩
  | .hbm, ⟨13, _⟩ => ⟨S_, .f32⟩
  | .hbm, ⟨14, _⟩ => ⟨S2x8x1x2048, .f32⟩
  | .hbm, ⟨15, _⟩ => ⟨S2x8x1x2048, .f32⟩
  | .hbm, ⟨16, _⟩ => ⟨S2x8x512x2048, .f32⟩
  | .hbm, ⟨17, _⟩ => ⟨S2x8x512x2048, .f32⟩
  | .hbm, ⟨18, _⟩ => ⟨S2x8x512x2048, .f32⟩
  | .hbm, ⟨19, _⟩ => ⟨S2x8x512x2048, .i32⟩
  | .hbm, ⟨20, _⟩ => ⟨S2x8x512x2048, .i8⟩
  | .hbm, ⟨21, _⟩ => ⟨S2x8x512x2048, .i32⟩
  | .hbm, ⟨22, _⟩ => ⟨S2x8x512x2048, .f32⟩
  | .hbm, ⟨23, _⟩ => ⟨S2x8x512x2048, .f32⟩
  | .hbm, ⟨24, _⟩ => ⟨S2x8x512x2048, .f32⟩
  | .hbm, ⟨25, _⟩ => ⟨S2, .i32⟩
  | .hbm, ⟨26, _⟩ => ⟨S2, .i32⟩
  | .hbm, ⟨27, _⟩ => ⟨S2, .i32⟩
  | .hbm, ⟨28, _⟩ => ⟨S_, .i32⟩
  | .hbm, ⟨29, _⟩ => ⟨S2, .i32⟩
  | .hbm, ⟨30, _⟩ => ⟨S2, .i1⟩
  | .hbm, ⟨31, _⟩ => ⟨S_, .i32⟩
  | .hbm, ⟨32, _⟩ => ⟨S2, .i32⟩
  | .hbm, ⟨33, _⟩ => ⟨S2, .i32⟩
  | .hbm, ⟨34, _⟩ => ⟨S2, .i32⟩
  | .hbm, ⟨35, _⟩ => ⟨S2x1, .i32⟩
  | .hbm, ⟨36, _⟩ => ⟨S2x8x512x2048, .f32⟩
  | .hbm, ⟨37, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call1_v0 : Ref sig .tc := ⟨.hbm, 25, rfl⟩
abbrev main_call1_v1_0 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Proof.Program.lean ====
/-
The kernel's exchange as a sequence of steps at a symbolic chunk.

The program names each of its eight chunks by literal offsets. Here one chunk's steps are written once, at a
chunk `k : Fin 8`: fetch the rows of `x` into a slot, quantise them, send codes and scales, wait for the peer's, write
the dequantised rows out. `body_eq` says that the printed branch is the chain of those steps.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions

@[expose] public section

noncomputable section

namespace Cert.Exchange

open Cert.KernelIdeal Cert.KernelIdeal.Gen
open Idealize.ShloMosaic Idealize.SL.Sem

variable {F : FTy → Type} [FloatOps F]

/-! ## The buffers -/

/-- The argument `x`, the result, the two double buffers, the codes and the scales (own, then the peer's). -/
abbrev xM : Memref sig .tc .hbm S4096x2048 .f32 := Memref.whole main_arg0
abbrev oM : Memref sig .tc .hbm S4096x2048 .f32 := Memref.whole main_v1
abbrev xiM : Memref sig .tc .vmem S2x512x2048 .f32 := Memref.whole cc0_scratch0
abbrev xoM : Memref sig .tc .vmem S2x512x2048 .f32 := Memref.whole cc0_scratch1
abbrev qsM : Memref sig .tc .vmem S4096x2048 .i8 := Memref.whole cc0_scratch2
abbrev qrM : Memref sig .tc .vmem S4096x2048 .i8 := Memref.whole cc0_scratch3
abbrev ssM : Memref sig .tc .vmem S8x2048 .f32 := Memref.whole cc0_scratch4
abbrev srM : Memref sig .tc .vmem S8x2048 .f32 := Memref.whole cc0_scratch5

/-! ## The rectangles -/

theorem inbC (k : Fin 8) : ∀ a, (![512 * k.val, 0] : Fin 2 → Nat) a + S512x2048.size a ≤ S4096x2048.size a := by
  revert k; decide
theorem inbS (k : Fin 8) : ∀ a, (![k.val, 0] : Fin 2 → Nat) a + S1x2048.size a ≤ S8x2048.size a := by
  revert k; decide
theorem inbX (b : Fin 2) : ∀ a, (![b.val, 0, 0] : Fin 3 → Nat) a + S1x512x2048.size a ≤ S2x512x2048.size a := by
  revert b; decide
theorem inb2 (b : Fin 2) : ∀ a, (![b.val] : Fin 1 → Nat) a + S1.size a ≤ S2.size a := by revert b; decide
theorem inb8 (k : Fin 8) : ∀ a, (![k.val] : Fin 1 → Nat) a + S1.size a ≤ S8.size a := by revert k; decide

/-- Rows `512 k … 512 k + 511` of an array of 4096 rows. -/
abbrev rC (k : Fin 8) : Rect S4096x2048 := Rect.unit (s := S4096x2048) ![512 * k.val, 0] S512x2048.size (inbC k)
/-- Row `k` of the eight rows of scales. -/
abbrev rS (k : Fin 8) : Rect S8x2048 := Rect.unit (s := S8x2048) ![k.val, 0] S1x2048.size (inbS k)
/-- Slot `b` of a double buffer. -/
abbrev rX (b : Fin 2) : Rect S2x512x2048 := Rect.unit (s := S2x512x2048) ![b.val, 0, 0] S1x512x2048.size (inbX b)

theorem packedC (k : Fin 8) : (rC k).PackedRows (EltTy.packing .i8) := by revert k; decide
theorem wordsC (k : Fin 8) : (rC k).WholeWords (EltTy.packing .i8) := by revert k; decide

/-- The slot chunk `k` goes through. -/
def slot (k : Fin 8) : Fin 2 := ⟨k.val % 2, Nat.mod_lt _ (by decide)⟩

/-! ## The chunks of the buffers -/

abbrev xC (k : Fin 8) : Memref sig .tc .hbm S512x2048 .f32 := xM.slice (rC k) (fun _ => rfl)
abbrev oC (k : Fin 8) : Memref sig .tc .hbm S512x2048 .f32 := oM.slice (rC k) (fun _ => rfl)
abbrev qsC (k : Fin 8) : Memref sig .tc .vmem S512x2048 .i8 := qsM.slice (rC k) (fun _ => rfl)
abbrev qrC (k : Fin 8) : Memref sig .tc .vmem S512x2048 .i8 := qrM.slice (rC k) (fun _ => rfl)
abbrev ssC (k : Fin 8) : Memref sig .tc .vmem S1x2048 .f32 := ssM.slice (rS k) (fun _ => rfl)
abbrev srC (k : Fin 8) : Memref sig .tc .vmem S1x2048 .f32 := srM.slice (rS k) (fun _ => rfl)
abbrev xiC (b : Fin 2) : Memref sig .tc .vmem S512x2048 .f32 :=
  (xiM.slice (rX b) (fun _ => rfl)).squeeze S512x2048 squeezes_S1x512x2048_S512x2048
abbrev xoC (b : Fin 2) : Memref sig .tc .vmem S512x2048 .f32 :=
  (xoM.slice (rX b) (fun _ => rfl)).squeeze S512x2048 squeezes_S1x512x2048_S512x2048

/-! ## The semaphores -/

def sem2 (A : DmaSems sig S2) (b : Fin 2) : DmaSem sig :=
  ((A.slice (Rect.unit (s := S2) ![b.val] S1.size (inb2 b))).squeeze S_ squeezes_S1_S_).sem
def sem8 (A : DmaSems sig S8) (k : Fin 8) : DmaSem sig :=
  ((A.slice (Rect.unit (s := S8) ![k.val] S1.size (inb8 k))).squeeze S_ squeezes_S1_S_).sem

/-- The local copies' semaphores (in, out), then the exchange's: codes sent, codes received, scales sent, scales received. -/
abbrev inS (b : Fin 2) : DmaSem sig := sem2 cc0_scratch6 b
abbrev outS (b : Fin 2) : DmaSem sig := sem2 cc0_scratch7 b
abbrev qsS (k : Fin 8) : DmaSem sig := sem8 cc0_scratch8 k
abbrev qrS (k : Fin 8) : DmaSem sig := sem8 cc0_scratch9 k
abbrev ssS (k : Fin 8) : DmaSem sig := sem8 cc0_scratch10 k
abbrev srS (k : Fin 8) : DmaSem sig := sem8 cc0_scratch11 k

theorem whole_i8 {b : Ref sig .tc} : (Memref.whole b : Memref sig .tc b.space b.ty.shape b.ty.elt).IsWhole := Memref.isWhole_whole _

/-! ## What one chunk computes -/

/-- The chunk's scales, from the slot it was fetched into. -/
abbrev sclP (v : Vec F S1x512x2048 .f32) : FVec F S1x2048 .f32 := k0_pay8 v
/-- The chunk's codes, from the slot it was fetched into. -/
abbrev codP (v : Vec F S1x512x2048 .f32) : IVec S512x2048 8 := k0_pay9 v
/-- The chunk dequantised, from codes and scales. -/
abbrev deqP (q : Vec F S512x2048 .i8) (s : Vec F S1x2048 .f32) : FVec F S1x512x2048 .f32 := k0_pay37 q s

/-! ## The steps -/

abbrev PR := Prog (TpuEff nD τ sig (Elt F) Λ₀ .tc) PUnit

/-- Start fetching chunk `k` of `x` into its slot. -/
def stIn (k : Fin 8) : PR (F := F) :=
  Prog.lift (.enqueueDma (xC k) (.here (xiC (slot k))) (.dma (inS (slot k)))
    (View.wordExact_bits rfl) ((View.wordExact_bits rfl).reshape _ _) ⟨Or.inl rfl, trivial⟩)

/-- Wait until chunk `k` has been fetched. -/
def wtIn (k : Fin 8) : PR (F := F) :=
  Prog.lift (.waitDma2 (inS (slot k)) (xC k) (xiC (slot k)) (View.wordExact_bits rfl) ((View.wordExact_bits rfl).reshape _ _))

/-- Quantise the fetched chunk: scales into row `k`, codes into chunk `k`. -/
def quant (k : Fin 8) : PR (F := F) := do
  let v : Vec F S1x512x2048 .f32 ← Prog.lift (.load xiM (rX (slot k)).toLoadRect (View.loadsAt_vmem h_S1x512x2048))
  let _ : Vec F S1x2048 .f32 ← Prog.lift (.load ssM (rS k).toLoadRect (View.loadsAt_vmem h_S1x2048))
  Prog.lift (.store ssM (rS k) (sclP v) Finset.univ (View.stores_vmem_bits_univ h_S1x2048 rfl) (.inl rfl))
  let _ : Vec F S512x2048 .i8 ← Prog.lift (.load qsM (rC k).toLoadRect (View.loadsAt_vmem h_S512x2048))
  Prog.lift (.store qsM (rC k) (codP v) Finset.univ
    (View.stores_vmem h_S512x2048 ((Memref.isWhole_whole _).storeExact_slice rfl _ (packedC k)) (fun _ => rfl)) (.inl rfl))

/-- Send chunk `k`'s codes to device `p`. -/
def sendQ (p : Dev nD) (k : Fin 8) : PR (F := F) :=
  Prog.lift (.enqueueDma (qsC k) (.remote (Dev.tc p) (qrC k) (.dma (qsS k))) (.dma (qrS k))
    ((Memref.isWhole_whole _).wordExact_slice rfl _ (wordsC k)) ((Memref.isWhole_whole _).wordExact_slice rfl _ (wordsC k)) ⟨⟨rfl, Or.inl rfl⟩, trivial⟩)

/-- Send chunk `k`'s scales to device `p`. -/
def sendS (p : Dev nD) (k : Fin 8) : PR (F := F) :=
  Prog.lift (.enqueueDma (ssC k) (.remote (Dev.tc p) (srC k) (.dma (ssS k))) (.dma (srS k))
    (View.wordExact_bits rfl) (View.wordExact_bits rfl) ⟨⟨rfl, Or.inl rfl⟩, trivial⟩)

/-- Wait for the peer's codes of chunk `k`. -/
def rcvQ (k : Fin 8) : PR (F := F) :=
  Prog.lift (.waitDma2 (qrS k) (qsC k) (qrC k)
    ((Memref.isWhole_whole _).wordExact_slice rfl _ (wordsC k)) ((Memref.isWhole_whole _).wordExact_slice rfl _ (wordsC k)))

/-- Wait for the peer's scales of chunk `k`. -/
def rcvS (k : Fin 8) : PR (F := F) :=
  Prog.lift (.waitDma2 (srS k) (ssC k) (srC k) (View.wordExact_bits rfl) (View.wordExact_bits rfl))

/-- Dequantise the received chunk into its slot. -/
def deq (k : Fin 8) : PR (F := F) := do
  let q : Vec F S512x2048 .i8 ← Prog.lift (.load qrM (rC k).toLoadRect (View.loadsAt_vmem h_S512x2048))
  let s : Vec F S1x2048 .f32 ← Prog.lift (.load srM (rS k).toLoadRect (View.loadsAt_vmem h_S1x2048))
  let _ : Vec F S1x512x2048 .f32 ← Prog.lift (.load xoM (rX (slot k)).toLoadRect (View.loadsAt_vmem h_S1x512x2048))
  Prog.lift (.store xoM (rX (slot k)) (deqP q s) Finset.univ (View.stores_vmem_bits_univ h_S1x512x2048 rfl) (.inl rfl))

/-- Start writing chunk `k` of the result. -/
def stOut (k : Fin 8) : PR (F := F) :=
  Prog.lift (.enqueueDma (xoC (slot k)) (.here (oC k)) (.dma (outS (slot k)))
    ((View.wordExact_bits rfl).reshape _ _) (View.wordExact_bits rfl) ⟨Or.inl rfl, trivial⟩)

/-- Wait until chunk `k` of the result has been written. -/
def wtOut (k : Fin 8) : PR (F := F) :=
  Prog.lift (.waitDma2 (outS (slot k)) (xoC (slot k)) (oC k) ((View.wordExact_bits rfl).reshape _ _) (View.wordExact_bits rfl))

/-- Wait until chunk `k`'s codes have left. -/
def wtQ (k : Fin 8) : PR (F := F) :=
  Prog.lift (.waitDma2 (qsS k) (qrC k) (qsC k)
    ((Memref.isWhole_whole _).wordExact_slice rfl _ (wordsC k)) ((Memref.isWhole_whole _).wordExact_slice rfl _ (wordsC k)))

/-- Wait until chunk `k`'s scales have left. -/
def wtS (k : Fin 8) : PR (F := F) :=
  Prog.lift (.waitDma2 (ssS k) (srC k) (ssC k) (View.wordExact_bits rfl) (View.wordExact_bits rfl))

/-- Quantise and send chunk `k`, already on its way in. -/
def chunkA (p : Dev nD) (k : Fin 8) : PR (F := F) := do
  wtIn k; quant k; sendQ p k; sendS p k

/-- Receive and dequantise chunk `k`, its slot already free, and start it on its way out. -/
def chunkB (k : Fin 8) : PR (F := F) := do
  deq k; stOut k

/-- Wait for the peer's chunk `k`. -/
def rcv (k : Fin 8) : PR (F := F) := do
  rcvQ k; rcvS k

/-- Wait until chunk `k` has left. -/
def left (k : Fin 8) : PR (F := F) := do
  wtQ k; wtS k

/-- The exchange with device `p`. -/
def exchange (p : Dev nD) : PR (F := F) := do
  stIn 0
  stIn 1; chunkA p 0
  stIn 2; chunkA p 1
  stIn 3; chunkA p 2
  stIn 4; chunkA p 3
  stIn 5; chunkA p 4
  stIn 6; chunkA p 5
  stIn 7; chunkA p 6
  chunkA p 7
  rcv 0; chunkB 0
  rcv 1; chunkB 1
  rcv 2; wtOut 0; chunkB 2
  rcv 3; wtOut 1; chunkB 3
  rcv 4; wtOut 2; chunkB 4
  rcv 5; wtOut 3; chunkB 5
  rcv 6; wtOut 4; chunkB 6
  rcv 7; wtOut 5; chunkB 7
  wtOut 6; wtOut 7
  left 0; left 1; left 2; left 3; left 4; left 5; left 6; left 7

/-- The device the kernel sends to, as it computes it from the routing word. -/
abbrev dst (d : Dev nD) (v : Elt F .i32) (hw : k0_chk1 d v) (h1 : k0_cond1 d v = 1#1) : Dev nD := ⟨k0_dev2 d v, k0_dev2_lt d v hw h1⟩

/-- The printed body: read the routing word, meet the peer at the barrier, exchange if the word names another device, copy
    through if it names this one. -/
def body : PR (F := F) := do
  let d : Dev nD ← Prog.lift .deviceId
  let v : Elt F .i32 ← smemLoad (Memref.whole cc0_stg0_0 : Memref sig .tc .smem S2 .i32) (Rect.unit (s := S2) (k0_off1 d) S1.size (k0_off1_inb d)) numel1_S1 rfl
  have hw : k0_chk1 d v := (← Prog.lift (TpuEff.assume (k0_chk1 d v) (k0_chk1.dec d v))).down
  semSignalWord (⟨k0_dev1 d, k0_dev1_lt d⟩ : Dev nD) (SemArray.scalar (sig.barrier 0 rfl) : Sems sig S_).sem 1#32
  semWaitWord (SemArray.scalar (sig.barrier 0 rfl) : Sems sig S_).sem 1#32
  if h1 : k0_cond1 d v = 1#1 then exchange (dst d v hw h1) else pure ⟨⟩
  if Scalar.cmpi .ne (Scalar.extui (Scalar.cmpi .eq v (Scalar.remsi (Scalar.divsi (Dev.word d) 4#32) 2#32)) : BitVec 32) 0#32 = 1#1 then do
    Prog.lift (.enqueueDma xM (.here oM) (.dma (inS 0)) (Memref.isWhole_whole _).wordExact (Memref.isWhole_whole _).wordExact ⟨Or.inl rfl, trivial⟩)
    Prog.lift (.waitDma2 (inS 0) xM oM (Memref.isWhole_whole _).wordExact (Memref.isWhole_whole _).wordExact)
    pure ⟨⟩
  else pure ⟨⟩
  pure ⟨⟩

set_option maxRecDepth 65536 in
/-- The printed body is this one. -/
theorem body_eq (t : Fin cfg0.N) (h : t = ⟨0, by decide⟩) : (bodyAt0 t : PR (F := F)) = body := by
  subst h
  chain_rfl

end Cert.Exchange
-- ==== Proof.Protocol.lean ====
/-
The exchange's protocol, written before its proof.

Device `c` and its peer (the device at the other end of the `x` axis) exchange their chunks of codes and of scales.
Every semaphore takes part in ONE round:

  barrier        the peer signals one unit before it touches anything; handed over: every chunk of the peer's two
                 receive buffers, to be written into;
  `q_send[k]`    credited when the codes of chunk `k` have left; handed back: the chunk of the own code buffer;
  `q_recv[k]`    credited by the peer's transfer; handed over: the chunk of the receive buffer, holding the peer's codes;
  `s_send[k]`, `s_recv[k]`   the same for the scales.

The local copies (chunks of `x` in, chunks of the result out) run on two semaphores each, one per slot of a double
buffer; each is waited for before its slot is used again.

Levels: a local copy's and a send's semaphore 0, the barrier 1, a receive semaphore 2. A device waits only for
levels below what it still owes: it owes the peer's receive semaphores until it has sent the chunk.
-/
module

public import proofs.«01_k».proof.Proof.Program
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The pipeline's cells, the exchange's rounds, and the counters the local copies run on. -/
abbrev UU : Type := UR sig nD τ × (URounds (GSem nD τ sig) Unit × Counters)

local notation "𝕄" => MT nD τ sig Unit (Elt F) ℕ UU ℕ

abbrev EP : Emb (UR sig nD τ) (MT nD τ sig Unit (Elt F) ℕ UU ℕ) := embL
abbrev ER : Emb (URounds (GSem nD τ sig) Unit) (MT nD τ sig Unit (Elt F) ℕ UU ℕ) := (Emb.inl).trans embR
abbrev EC : UEmb Counters (MT nD τ sig Unit (Elt F) ℕ UU ℕ) := countersEmb

/-! ## The peer -/

set_option backward.proofsInPublic true in
/-- The device at the other end of the `x` axis. -/
def peer (c : Dev nD) : Dev nD := ⟨(c.val + 4) % 8, Nat.mod_lt _ (by decide)⟩

theorem peer_peer (c : Dev nD) : peer (peer c) = c := by revert c; decide

def swapDev : Dev nD ≃ Dev nD := ⟨peer, peer, peer_peer, peer_peer⟩

/-! ## The cells -/

abbrev barS : Sem sig := (SemArray.scalar (sig.barrier 0 rfl) : Sems sig S_).sem

/-- A device's cells: the barrier, and for each kind (codes sent, codes received, scales sent, scales received) and chunk one. -/
abbrev CI : Type := Option (Fin 4 × Fin 8)

def xS : Fin 4 → Fin 8 → DmaSem sig
  | 0, k => qsS k
  | 1, k => qrS k
  | 2, k => ssS k
  | 3, k => srS k

def csem : CI → SemLoc sig
  | none => .reg barS
  | some (a, k) => .dma (xS a k)

/-- Which of the cells a semaphore is, if any. -/
def kind : SemLoc sig → Option CI
  | .reg _ => some none
  | .dma q => if h : 5 ≤ q.val then
      some (some (⟨(q.val - 5) / 8, by have := q.isLt; change q.val < 37 at this; omega⟩, ⟨(q.val - 5) % 8, Nat.mod_lt _ (by decide)⟩)) else none

theorem kind_dma : ∀ (a : Fin 4) (k : Fin 8), kind (.dma (xS a k)) = some (some (a, k)) := by decide +kernel
theorem kind_csem (i : CI) : kind (csem i) = some i := by
  rcases i with _ | ⟨a, k⟩
  · rfl
  · exact kind_dma a k
theorem csem_injective : Function.Injective csem := fun i j h => Option.some.inj (by rw [← kind_csem i, h, kind_csem])

abbrev cell (c : Dev nD) (i : CI) : GSem nD τ sig := ((c : Thread nD τ), csem i)

theorem cell_injective : Function.Injective (fun ci : Dev nD × CI => cell ci.1 ci.2) := fun a b h => by
  obtain ⟨a, i⟩ := a; obtain ⟨b, j⟩ := b
  have h1 : a = b := Fin.ext (congrArg (fun g : GSem nD τ sig => g.1.1.val) h)
  have h2 : i = j := csem_injective (congrArg Prod.snd h)
  rw [h1, h2]

/-! ## Amounts -/

/-- What a chunk of `x`, of codes, of scales credits. -/
abbrev NX : ℕ := (xC 0).view.dmaCredit
abbrev NI : ℕ := (xiC 0).view.dmaCredit
abbrev NQ : ℕ := (qrC 0).view.dmaCredit
abbrev NS : ℕ := (srC 0).view.dmaCredit

theorem NQ_pos : 0 < NQ := View.dmaCredit_pos _ (by decide)
theorem NS_pos : 0 < NS := View.dmaCredit_pos _ (by decide)
theorem NI_pos : 0 < NI := View.dmaCredit_pos _ (by decide)
theorem NX_pos : 0 < NX := View.dmaCredit_pos _ (by decide)

def amt : CI → ℕ
  | none => 1
  | some (a, _) => if a.val < 2 then NQ else NS

theorem amt_pos (i : CI) : 0 < amt i := by
  rcases i with _ | ⟨a, k⟩
  · exact Nat.one_pos
  · show 0 < (if a.val < 2 then NQ else NS)
    split
    · exact NQ_pos
    · exact NS_pos

/-! ## Contents -/

variable (x : Dev nD → FVec F S4096x2048 .f32)

/-- Chunk `k` of an array of 4096 rows. -/
def chunkOf (x : FVec F S4096x2048 .f32) (k : Fin 8) : FVec F S512x2048 .f32 := fun j => x ((rC k).emb j)

/-- A chunk as a slot of a double buffer holds it. -/
abbrev asSlot (v : FVec F S512x2048 .f32) : FVec F S1x512x2048 .f32 := shapeCast S1x512x2048 v shapeCasts_S512x2048_S1x512x2048
abbrev ofSlot (v : FVec F S1x512x2048 .f32) : FVec F S512x2048 .f32 := shapeCast S512x2048 v shapeCasts_S1x512x2048_S512x2048

/-- A chunk's codes and scales, and codes and scales dequantised. -/
def codes (v : FVec F S512x2048 .f32) : IVec S512x2048 8 := codP (asSlot v)
def scales (v : FVec F S512x2048 .f32) : FVec F S1x2048 .f32 := sclP (asSlot v)
def deqOf (q : IVec S512x2048 8) (s : FVec F S1x2048 .f32) : FVec F S512x2048 .f32 := ofSlot (deqP q s)

/-- A chunk quantised and dequantised. -/
def through (v : FVec F S512x2048 .f32) : FVec F S512x2048 .f32 := deqOf (codes v) (scales v)

/-- The chunk a row lies in, and its place there. -/
def kOf (i : S4096x2048.Idx) : Fin 8 := ⟨(i 0).val / 512, by have h : (i 0).val < 4096 := (i 0).isLt; omega⟩
def jOf (i : S4096x2048.Idx) : S512x2048.Idx := fun a => match a with
  | ⟨0, _⟩ => ⟨(i 0).val % 512, Nat.mod_lt _ (by decide)⟩
  | ⟨1, _⟩ => i 1

theorem kOf_emb (k : Fin 8) (j : S512x2048.Idx) : kOf ((rC k).emb j) = k := Fin.ext (by
  have h : (j 0).val < 512 := (j 0).isLt
  show (512 * k.val + 1 * (j 0).val) / 512 = k.val
  omega)
theorem jOf_emb (k : Fin 8) (j : S512x2048.Idx) : jOf ((rC k).emb j) = j := funext fun a => by
  have h : (j 0).val < 512 := (j 0).isLt
  match a with
  | ⟨0, _⟩ => exact Fin.ext (by show (512 * k.val + 1 * (j 0).val) % 512 = (j 0).val; omega)
  | ⟨1, _⟩ => exact Fin.ext (by show 0 + 1 * (j 1).val = (j 1).val; omega)

/-- An array quantised and dequantised chunk by chunk. -/
def throughAll (x : FVec F S4096x2048 .f32) : FVec F S4096x2048 .f32 := fun i => through (chunkOf x (kOf i)) (jOf i)

theorem throughAll_chunk (x : FVec F S4096x2048 .f32) (k : Fin 8) : (fun j => throughAll x ((rC k).emb j)) = through (chunkOf x k) :=
  funext fun j => by unfold throughAll; rw [kOf_emb, jOf_emb]

/-! ## Ownership -/

/-- Device `c` holds the whole of memref `m` at contents `X`; -/
abbrev hold (c : Dev nD) {sp : Space} {sh : Shape} {e : EltTy} (m : Memref sig .tc sp sh e) (X : sh.Idx → Elt F e) : sProp 𝕄 :=
  owns (c : Thread nD τ) m fullShare X
/-- at some contents. -/
abbrev holdAny (c : Dev nD) {sp : Space} {sh : Shape} {e : EltTy} (m : Memref sig .tc sp sh e) : sProp 𝕄 :=
  iprop(∃ X : sh.Idx → Elt F e, owns (c : Thread nD τ) m fullShare X)

/-! ## The schedule -/

/-- Every chunk of a device's two receive buffers, at any contents. -/
def landing (c : Dev nD) : sProp 𝕄 := bigSep Finset.univ fun k : Fin 8 => iprop(holdAny c (qrC k) ∗ holdAny (F := F) c (srC k))

/-- What the units of a cell of device `c` hand to `c`. -/
def pay (c : Dev nD) : CI → sProp 𝕄
  | none => landing (peer c)
  | some (0, k) => hold c (qsC k) (codes (chunkOf (x c) k))
  | some (1, k) => hold c (qrC k) (codes (chunkOf (x (peer c)) k))
  | some (2, k) => hold c (ssC k) (scales (chunkOf (x c) k))
  | some (3, k) => hold c (srC k) (scales (chunkOf (x (peer c)) k))

instance pay_storable (c : Dev nD) (i : CI) : BI.Storable (upEmb : UEmb _ 𝕄) (pay x c i) := by
  rcases i with _ | ⟨a, k⟩
  · show BI.Storable upEmb (landing (F := F) (peer c)); unfold landing; infer_instance
  · fin_cases a <;> (dsimp only [pay]; infer_instance)

def Rd : Rounds.Schedule (GSem nD τ sig) Unit 𝕄 where
  duties g r := if r = 0 ∧ g.1.2 = .tc ∧ (kind g.2).isSome then {()} else ∅
  unitless _ := False
  amount g _ _ := match kind g.2 with
    | some i => amt i
    | none => 1
  payload g _ _ := match kind g.2 with
    | some i => pay x g.1.1 i
    | none => iprop(emp)
  amount_pos g _ _ _ := by
    rcases kind g.2 with _ | i
    · exact Nat.one_pos
    · exact amt_pos i

instance Rd_payload_storable (g : GSem nD τ sig) (r : ℕ) (d : Unit) : BI.Storable (upEmb : UEmb _ 𝕄) ((Rd x).payload g r d) := by
  dsimp only [Rd]
  rcases kind g.2 with _ | i <;> dsimp only <;> infer_instance

theorem duties_later (g : GSem nD τ sig) : ∀ r, 1 ≤ r → (Rd x).duties g r = ∅ :=
  fun r hr => by dsimp only [Rd]; rw [if_neg fun h => by omega]
theorem duties_cell (c : Dev nD) (i : CI) : (Rd x).duties (cell c i) 0 = {()} := by
  dsimp only [Rd]; exact if_pos ⟨rfl, rfl, by rw [kind_csem]; rfl⟩
theorem mem_duties (c : Dev nD) (i : CI) : () ∈ (Rd x).duties (cell c i) 0 := by rw [duties_cell]; exact Finset.mem_singleton_self _
theorem amount_cell (c : Dev nD) (i : CI) : (Rd x).amount (cell c i) 0 () = amt i := by dsimp only [Rd]; rw [kind_csem]
theorem payload_cell (c : Dev nD) (i : CI) : (Rd x).payload (cell c i) 0 () = pay x c i := by dsimp only [Rd]; rw [kind_csem]
theorem expect_cell (c : Dev nD) (i : CI) : (Rd x).expect (cell c i) 0 = amt i := by
  unfold Schedule.expect Schedule.amountOf; rw [duties_cell, Finset.sum_singleton, amount_cell]
theorem rest_cell (c : Dev nD) (i : CI) :
    bigSep ((Rd x).duties (cell c i) 0 \ ∅) (fun d => (Rd x).payload (cell c i) 0 d) = pay x c i := by
  rw [Finset.sdiff_empty, duties_cell, bigSep_singleton, payload_cell]

/-! ## What a device owes -/

/-- What device `c` owes the peer for chunk `k`: the scales and the codes. -/
def oweS (c : Dev nD) (k : Fin 8) : CellTallies nD τ sig Unit := tallyAt (cell (peer c) (some (3, k))) () NS
def oweQ (c : Dev nD) (k : Fin 8) : CellTallies nD τ sig Unit := tallyAt (cell (peer c) (some (1, k))) () NQ

/-- What it owes while the chunks from `n` on are not sent; -/
def oweFrom (c : Dev nD) (n : ℕ) : CellTallies nD τ sig Unit := ∑ j ∈ Finset.univ.filter (fun j : Fin 8 => n ≤ j.val), (oweS c j + oweQ c j)
/-- and at the launch: all that, and a unit on the peer's barrier. -/
def O₀ (c : Dev nD) : CellTallies nD τ sig Unit := oweFrom c 0 + tallyAt (cell (peer c) none) () 1

theorem filter_from (k : Fin 8) :
    Finset.univ.filter (fun j : Fin 8 => k.val ≤ j.val) = insert k (Finset.univ.filter (fun j : Fin 8 => k.val + 1 ≤ j.val)) := by
  revert k; decide
theorem not_mem_from (k : Fin 8) : k ∉ Finset.univ.filter (fun j : Fin 8 => k.val + 1 ≤ j.val) := by revert k; decide

theorem oweFrom_step (c : Dev nD) (k : Fin 8) : oweFrom c k.val = (oweFrom c (k.val + 1) + oweS c k) + oweQ c k := by
  unfold oweFrom
  rw [filter_from, Finset.sum_insert (not_mem_from k), add_comm (oweS c k + oweQ c k), add_assoc]
theorem oweFrom_8 (c : Dev nD) : oweFrom c 8 = 0 := by
  unfold oweFrom
  rw [show Finset.univ.filter (fun j : Fin 8 => 8 ≤ j.val) = ∅ by decide, Finset.sum_empty]

theorem tallyAt_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

/-- What is still to be sent is owed to the peer's receive cells. -/
theorem oweFrom_pos {c : Dev nD} {n : ℕ} {g : GSem nD τ sig} {u : Unit} (h : 0 < oweFrom c n g u) :
    ∃ k : Fin 8, g = cell (peer c) (some (3, k)) ∨ g = cell (peer c) (some (1, k)) := by
  unfold oweFrom at h
  rw [Finset.sum_apply, Finsupp.finsetSum_apply] at h
  obtain ⟨k, -, hk⟩ := Finset.exists_ne_zero_of_sum_ne_zero (Nat.pos_iff_ne_zero.mp h)
  have hk := Nat.pos_iff_ne_zero.mpr hk
  rw [Pi.add_apply, Finsupp.add_apply] at hk
  refine ⟨k, ?_⟩
  rcases Nat.eq_zero_or_pos (oweS c k g u) with h0 | h1
  · rw [h0, Nat.zero_add] at hk; exact .inr (tallyAt_pos hk)
  · exact .inl (tallyAt_pos h1)

theorem O₀_pos {c : Dev nD} {g : GSem nD τ sig} {u : Unit} (h : 0 < O₀ c g u) :
    (∃ k : Fin 8, g = cell (peer c) (some (3, k)) ∨ g = cell (peer c) (some (1, k))) ∨ g = cell (peer c) none := by
  unfold O₀ at h
  rw [Pi.add_apply, Finsupp.add_apply] at h
  rcases Nat.eq_zero_or_pos (oweFrom c 0 g u) with h0 | h1
  · rw [h0, Nat.zero_add] at h; exact .inr (tallyAt_pos h)
  · exact .inl (oweFrom_pos h1)

/-! ## Levels -/

def L (g : GSem nD τ sig) : Finset Unit := if g.1.2 = .tc then {()} else ∅

def lvK : Option CI → ℕ
  | some none => 1
  | some (some (a, _)) => if a.val = 1 ∨ a.val = 3 then 2 else 0
  | none => 0
def lv (g : GSem nD τ sig) (_ : Unit) : ℕ := lvK (kind g.2)

theorem L_of_ne (g : GSem nD τ sig) (h : g.1.2 ≠ .tc) : L g = ∅ := if_neg h
theorem mem_L (c : Dev nD) (sm : SemLoc sig) (u : Unit) : u ∈ L ((c : Thread nD τ), sm) := by
  rw [show L ((c : Thread nD τ), sm) = {()} from if_pos rfl]; exact Finset.mem_singleton_self _
theorem lv_cell (c : Dev nD) (i : CI) (u : Unit) : lv (cell c i) u = lvK (some i) := by unfold lv; rw [kind_csem]

theorem mayWait_of (c : Dev nD) (sm : SemLoc sig) (O : CellTallies nD τ sig Unit) (hT : ∀ g u, 0 < O g u → g.1.2 = .tc)
    (hO : ∀ g u, 0 < O g u → lvK (kind sm) < lv g u) :
    (levAts L lv : sProp 𝕄) ⊢ MayWait (c : Thread nD τ) sm () O :=
  MayOwe.of_cut (L := L) (lev := lv) (lvK (kind sm)) (fun p hp => by rw [Finset.mem_singleton.mp hp]; exact mem_L c sm ())
    (fun g u hg => by rw [show L g = {()} from if_pos (hT g u hg)]; exact Finset.mem_singleton_self _)
    (fun p hp => by rw [Finset.mem_singleton.mp hp]; exact le_rfl)
    (fun g u hg => hO g u hg)

/-- A device that still owes chunks to its peer may wait for anything of level 0 or 1. -/
theorem mayWait_from (c : Dev nD) (sm : SemLoc sig) (n : ℕ) (h : lvK (kind sm) < 2) :
    (levAts L lv : sProp 𝕄) ⊢ MayWait (c : Thread nD τ) sm () (oweFrom c n) :=
  mayWait_of c sm _ (fun g u hg => by obtain ⟨k, rfl | rfl⟩ := oweFrom_pos hg <;> rfl)
    (fun g u hg => by obtain ⟨k, rfl | rfl⟩ := oweFrom_pos hg <;> (rw [lv_cell]; exact h))

/-- Before it has signalled the barrier it may wait for anything of level 0. -/
theorem mayWait_launch (c : Dev nD) (sm : SemLoc sig) (h : lvK (kind sm) = 0) :
    (levAts L lv : sProp 𝕄) ⊢ MayWait (c : Thread nD τ) sm () (O₀ c) :=
  mayWait_of c sm _ (fun g u hg => by obtain ⟨k, rfl | rfl⟩ | rfl := O₀_pos hg <;> rfl)
    (fun g u hg => by
      rw [h]
      obtain ⟨k, rfl | rfl⟩ | rfl := O₀_pos hg <;> rw [lv_cell] <;> exact Nat.zero_lt_succ _)

theorem mayWait_done (c : Dev nD) (sm : SemLoc sig) : (emp : sProp 𝕄) ⊢ MayWait (c : Thread nD τ) sm () (0 : CellTallies nD τ sig Unit) := by
  rw [MayWait_zero]; exact BI.Entails.refl _

theorem kind_inS : ∀ b : Fin 2, kind (.dma (inS b)) = none := by decide +kernel
theorem kind_outS : ∀ b : Fin 2, kind (.dma (outS b)) = none := by decide +kernel

/-! ## The records -/

/-- The invariants of all the cells and that each has reached its round: known to every device. -/
def records (K : Dev nD × CI → ℕ) : sProp 𝕄 :=
  iprop((bigSep Finset.univ fun ci : Dev nD × CI => cellInv ER (Rd x) (K ci) (cell ci.1 ci.2))
    ∗ bigSep Finset.univ fun ci : Dev nD × CI => reached ER (cell ci.1 ci.2) 0)

instance records_persistent (K : Dev nD × CI → ℕ) : BI.Persistent (records x K) := by unfold records; infer_instance

theorem inv_at (K : Dev nD × CI → ℕ) (c : Dev nD) (i : CI) : records x K ⊢ cellInv ER (Rd x) (K (c, i)) (cell c i) :=
  (show records x K ⊢ (bigSep Finset.univ fun ci : Dev nD × CI => cellInv ER (Rd x) (K ci) (cell ci.1 ci.2)) from by
    unfold records; iintro ⟨H, -⟩; iexact H).trans (bigSep_elim (Finset.mem_univ (c, i)))
theorem reached_at (K : Dev nD × CI → ℕ) (c : Dev nD) (i : CI) : records x K ⊢ reached ER (cell c i) 0 :=
  (show records x K ⊢ (bigSep Finset.univ fun ci : Dev nD × CI => (reached ER (cell ci.1 ci.2) 0 : sProp 𝕄)) from by
    unfold records; iintro ⟨-, H⟩; iexact H).trans (bigSep_elim (Finset.mem_univ (c, i)))

end Cert.Exchange
-- ==== Proof.Steps.lean ====
/-
The effects of the exchange, one rule each, in terms of what the device holds: a chunk of a buffer at named contents
(`hold`), a local copy under way (`Flight`), a cell's ticket (`cred`) and position (`atPos`).
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

abbrev 𝒱₀ : Variants := Variants.none

/-- Running a program on device `c`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for. -/
def ow (c : Dev nD) (O : CellTallies nD τ sig Unit) : sProp 𝕄 := iprop(∃ W, owes (c : Thread nD τ) O W)

/-! ## Buffers -/

section Buffers

variable (c : Dev nD) {α : Type}

/-- A load through a rectangle reads what is held there. -/
theorem run_load {Q : α → sProp 𝕄} {cs : CoreSpace} {s : Shape} {e : EltTy} {m : Memref sig .tc cs s e} {r : Rect s} (hr : ∀ a, r.stride a = 1) {hl : m.view.LoadsAt r.toLoadRect}
    (X : r.shape.Idx → Elt F e) {k : (r.shape.Idx → Elt F e) → Prog (TpuEff nD τ sig (Elt F) Λ₀ .tc) α} :
    hold c (m.slice r hr) X ⊢ iprop((hold c (m.slice r hr) X -∗ run c (k X) Q) -∗ run c (.op (.load m r.toLoadRect hl) k) Q) := by
  unfold hold owns
  iintro ⟨%f, %hf, H⟩ Hk
  iapply (wp_load_rect 𝒱₀ (c : Thread nD τ) none Set.univ (m := m) (r := r) (S := (m.access r).set) (f := f) (q := fullShare) (le_refl _)) $$ H
  iintro H
  rw [show (m.access r).read (Elt F) f = X from hf]
  iapply Hk
  iexists f
  isplitr
  · ipureintro; exact hf
  · iexact H

/-- A store through a rectangle leaves what it stores there. -/
theorem run_store {Q : α → sProp 𝕄} {cs : CoreSpace} {s : Shape} {e : EltTy} {m : Memref sig .tc cs s e} {r : Rect s} (hr : ∀ a, r.stride a = 1) {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} :
    holdAny c (m.slice r hr) ⊢ iprop((hold c (m.slice r hr) w -∗ run c (k ⟨⟩) Q) -∗ run c (.op (.store m r w Finset.univ hx hm) k) Q) := by
  unfold holdAny hold owns
  iintro ⟨%X, %f, %hf, H⟩ Hk
  iapply (wp_store 𝒱₀ (c : Thread nD τ) none Set.univ (m := m) (r := r) (Mk := Finset.univ) (S := (m.access r).set) (f := f) (le_refl _)) $$ H
  iintro H
  iapply Hk
  iexists _
  isplitr [H]
  rotate_left
  · iexact H
  · ipureintro; exact View.read_write_univ f w

/-- A squeezed memref holds what the memref holds, re-indexed. -/
theorem hold_squeeze {sp : Space} {s s' : Shape} {e : EltTy} (m : Memref sig .tc sp s e) (h : s.Squeezes s') (h1 : s'.ShapeCasts s) (X : s'.Idx → Elt F e) :
    hold c (m.squeeze s' h) X ⊢ hold c m (shapeCast s X h1) := by
  unfold hold owns
  iintro ⟨%f, %hf, H⟩
  iexists f
  isplitr
  · ipureintro
    rw [← hf]
    funext i
    show m.view.read (Elt F) f i = m.view.read (Elt F) f (Shape.reshapeEquiv _ (Shape.reshapeEquiv _ i))
    rw [Shape.reshapeEquiv_reshapeEquiv, Shape.reshapeEquiv_self]
  · simp only [Memref.view_squeeze, View.set_reshape]; iexact H

theorem hold_unsqueeze {sp : Space} {s s' : Shape} {e : EltTy} (m : Memref sig .tc sp s e) (h : s.Squeezes s') (h1 : s.ShapeCasts s') (X : s.Idx → Elt F e) :
    hold c m X ⊢ hold c (m.squeeze s' h) (shapeCast s' X h1) := by
  unfold hold owns
  iintro ⟨%f, %hf, H⟩
  iexists f
  isplitr
  · ipureintro; rw [← hf]; rfl
  · simp only [Memref.view_squeeze, View.set_reshape]; iexact H

end Buffers

/-! ## Local copies -/

section Copies

variable (c : Dev nD) {α : Type}

/-- A local copy on a semaphore at zero: it delivers the destination at the source's contents and the source. -/
theorem run_copy {Q : α → sProp 𝕄} {sp sp' : Space} {s : Shape} {e : EltTy} {src : Memref sig .tc sp s e} {dst : Memref sig .tc sp' s e} {sm : DmaSem sig}
    {hsrc : src.view.WordExact} {hdst : dst.view.WordExact} {hsem : DmaTarget.Typed (nD := nD) (p := (.tc : Proc τ)) sp (.dma sm) (.here dst)}
    {k : PUnit → Prog (TpuEff nD τ sig (Elt F) Λ₀ .tc) α} (N : ℕ) (hN : dst.view.dmaCredit = N) (hN0 : 0 < N) (X : s.Idx → Elt F e) :
    iprop(hold c src X ∗ holdAny c dst ∗ semVal ((c : Thread nD τ), .dma sm) 0)
      ⊢ iprop((Flight EC (c : Thread nD τ) (.dma sm) () N iprop(hold c dst X ∗ hold c src X) -∗ run c (k ⟨⟩) Q)
          -∗ run c (.op (.enqueueDma src (.here dst) (.dma sm) hsrc hdst hsem) k) Q) := by
  unfold holdAny
  iintro ⟨Hs, ⟨%Y, Hd⟩, Hv⟩ Hk
  unfold hold owns
  icases Hs with ⟨%fs, %hs, Hs⟩
  icases Hd with ⟨%fd, %hd, Hd⟩
  iapply (Transfers.wp_dmaLocal EC 𝒱₀ (c : Thread nD τ) none (src := src) (dst := dst) (sm := .dma sm) (via := .same) (fs := fs) (fd := fd) (q := fullShare)
    (Sd := dst.view.set) () N hN hN0 (le_refl _)) $$ [Hs Hd Hv]
  · isplitl [Hs]; · iexact Hs
    isplitl [Hd]; · iexact Hd
    iexact Hv
  iintro Hfl
  iapply Hk
  iapply (Transfers.Flight_mono EC (c : Thread nD τ) ?_) $$ Hfl
  iintro ⟨Hd, Hs⟩
  isplitl [Hd]
  · iexists _
    isplitr [Hd]
    rotate_left
    · iexact Hd
    · ipureintro; exact (View.read_write_univ fd _).trans hs
  · iexists fs
    isplitr
    · ipureintro; exact hs
    · iexact Hs

/-- The wait for it. -/
theorem run_arrive {Q : α → sProp 𝕄} {sp sp' : Space} {s s' : Shape} {e e' : EltTy} {srcw : Memref sig .tc sp' s' e'} {dstw : Memref sig .tc sp s e} {sm : DmaSem sig}
    {hsrc : srcw.view.WordExact} {hdst : dstw.view.WordExact} {k : PUnit → Prog (TpuEff nD τ sig (Elt F) Λ₀ .tc) α}
    (N : ℕ) (hN : dstw.view.dmaCredit = N) (D : sProp 𝕄) (O : CellTallies nD τ sig Unit) :
    iprop(Flight EC (c : Thread nD τ) (.dma sm) () N D ∗ ow c O ∗ MayWait (c : Thread nD τ) (.dma sm) () O)
      ⊢ iprop((iprop(D ∗ semVal ((c : Thread nD τ), .dma sm) 0 ∗ ow c O) -∗ run c (k ⟨⟩) Q)
          -∗ run c (.op (.waitDma2 sm srcw dstw hsrc hdst) k) Q) := by
  unfold ow
  iintro ⟨Hf, ⟨%W, HO⟩, HM⟩ Hk
  iapply (Transfers.wp_waitLocalO EC 𝒱₀ (c : Thread nD τ) none () hN (O := O) (W := W)) $$ [Hf HO HM]
  · isplitl [Hf]; · iexact Hf
    isplitl [HO] <;> iassumption
  iintro ⟨HD, Hv, HO⟩
  iapply Hk
  isplitl [HD]; · iexact HD
  isplitl [Hv]; · iexact Hv
  iexists _; iexact HO

end Copies

/-! ## The exchange's cells -/

section Cells

variable (x : Dev nD → FVec F S4096x2048 .f32) (K : Dev nD × CI → ℕ) (c : Dev nD) {α : Type}

/-- A transfer to the peer: the send cell's payload is made from the source, the receive cell's from the destination
    at the source's contents. -/
theorem run_send {Q : α → sProp 𝕄} {sp sp' : Space} {s : Shape} {e : EltTy} {src : Memref sig .tc sp s e} {dst : Memref sig .tc sp' s e} {i j : CI}
    {hsc : (dst : Memref sig (Dev.tc (peer c) : Thread nD τ).2.kind sp' s e).view.ref.isScScratch = false} {hsrc : src.view.WordExact} {hdst : dst.view.WordExact}
    {hsem : DmaTarget.Typed sp (csem j) (.remote (Dev.tc (peer c) : Thread nD τ) dst (csem i) hsc)}
    {k : PUnit → Prog (TpuEff nD τ sig (Elt F) Λ₀ .tc) α} (X : s.Idx → Elt F e)
    (hN : dst.view.amount (csem j) = amt j) (hij : amt i = amt j)
    (O : CellTallies nD τ sig Unit) {O' : CellTallies nD τ sig Unit} (hO : O' = O + tallyAt (cell (peer c) j) () (amt j))
    (hpay₁ : hold c src X ⊢ pay x c i) (hpay₂ : hold (peer c) dst X ⊢ pay x (peer c) j) :
    iprop(records x K ∗ hold c src X ∗ holdAny (peer c) dst ∗ ow c O' ∗ dutyTok ER (cell c i) 0 () ∗ dutyTok ER (cell (peer c) j) 0 ())
      ⊢ iprop((iprop(cred (tallyAt (cell c i) () (amt i)) ∗ ow c O) -∗ run c (k ⟨⟩) Q)
          -∗ run c (.op (.enqueueDma src (.remote (Dev.tc (peer c) : Thread nD τ) dst (csem i) hsc) (csem j) hsrc hdst hsem) k) Q) := by
  unfold holdAny ow
  iintro ⟨#HR, Hs, ⟨%Y, Hd⟩, ⟨%W, HO⟩, Ht1, Ht2⟩ Hk
  unfold hold owns
  icases Hs with ⟨%fs, %hs, Hs⟩
  icases Hd with ⟨%fd, %hd, Hd⟩
  rw [hij]
  iapply (Rounds.wp_send_pointsTo 𝒱₀ ER (Rd x) (c : Thread nD τ) none (κ₁ := K (c, i)) (κ₂ := K (peer c, j))
    (r₁ := 0) (r₂ := 0) (d₁ := ()) (d₂ := ()) (fd := fd) (fs := fs) (q := fullShare)
    (mem_duties x c i) (mem_duties x (peer c) j) () () (amt j) hN ((amount_cell x c i).trans hij) (amount_cell x (peer c) j) O hO (W := W)
    ((show _ ⊢ hold c src X from by
      unfold hold owns; iintro H; iexists fs; isplitr
      · ipureintro; exact hs
      · iexact H).trans (hpay₁.trans (Entails.of_eq (payload_cell x c i).symm)))
    ((show _ ⊢ hold (peer c) dst X from by
      unfold hold owns; iintro H; iexists _; isplitr [H]
      rotate_left
      · iexact H
      · ipureintro; exact (View.read_write_univ fd _).trans hs).trans (hpay₂.trans (Entails.of_eq (payload_cell x (peer c) j).symm))))
    $$ [Hs Hd HO Ht1 Ht2]
  · isplitr; · iapply (inv_at x K c i); iexact HR
    isplitr; · iapply (inv_at x K (peer c) j); iexact HR
    isplitl [Hs]; · iexact Hs
    isplitl [Hd]; · iexact Hd
    isplitl [HO]; · iexact HO
    isplitl [Ht1]; · iexact Ht1
    isplitr; · iapply (reached_at x K c i); iexact HR
    isplitl [Ht2]; · iexact Ht2
    iapply (reached_at x K (peer c) j); iexact HR
  iintro ⟨Hc, HO⟩
  iapply Hk
  isplitl [Hc]; · iexact Hc
  iexists W; iexact HO

/-- The wait on one of a device's cells: its payload comes, and the cell is the device's again, at zero. -/
theorem run_wait {Q : α → sProp 𝕄} {i : CI} {w : TpuEff nD τ sig (Elt F) Λ₀ .tc PUnit} {k : PUnit → Prog (TpuEff nD τ sig (Elt F) Λ₀ .tc) α}
    (hw : ∀ Φ : PUnit → sProp 𝕄, wpE (defs₀ (F := F)) 𝒱₀ (c : Thread nD τ) none Set.univ w Φ = waitSpec (c : Thread nD τ) Set.univ (csem i) (amt i) Φ)
    (O : CellTallies nD τ sig Unit) :
    iprop(records x K ∗ cred (tallyAt (cell c i) () (amt i)) ∗ ow c O ∗ MayWait (c : Thread nD τ) (csem i) () O ∗ atPos ER (cell c i) 0 ∅ 0)
      ⊢ iprop((iprop(ow c O ∗ semVal (cell c i) 0 ∗ pay x c i) -∗ run c (k ⟨⟩) Q) -∗ run c (.op w k) Q) := by
  unfold ow
  iintro ⟨#HR, Hc, ⟨%W, HO⟩, HM, Hat⟩ Hk
  iapply (Rounds.wp_wait_rest_token 𝒱₀ ER (Rd x) (c : Thread nD τ) none (κ := K (c, i)) hw (Set.mem_univ _) () (O := O) (W := W) (R := 0) (m := 0) (T := ∅)
      (by rw [Nat.zero_add, expect_cell])) $$ [Hc HO HM Hat]
  · isplitr; · iapply (inv_at x K c i); iexact HR
    isplitl [Hc]; · iexact Hc
    isplitl [HO]; · iexact HO
    isplitl [HM] <;> iassumption
  iintro ⟨HO, Hat, -, Hpay⟩
  ihave Hp := (Entails.of_eq (rest_cell x c i)) $$ Hpay
  imod (Rounds.cell_close ER (Rd x) (Set.mem_univ (K (c, i))) (fun h => h) (R := 0 + 1) (duties_later x (cell c i))) $$ [Hat] with Hz
  · isplitr; · iapply (inv_at x K c i); iexact HR
    iexact Hat
  iapply Hk
  isplitl [HO]; · iexists _; iexact HO
  isplitl [Hz] <;> iassumption

end Cells

end Cert.Exchange
-- ==== Proof.Chunks.lean ====
/-
One chunk's steps at a symbolic chunk `k`, each as a rule: what the device holds before and after.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (x : Dev nD → FVec F S4096x2048 .f32) (K : Dev nD × CI → ℕ) (c : Dev nD)

/-! ## What a device holds -/

/-- Chunk `k` of its `x`. -/
def xin (k : Fin 8) : sProp 𝕄 := hold c (xC k) (chunkOf (x c) k)
/-- Slot `b` of the fetch buffer, free. -/
def freeIn (b : Fin 2) : sProp 𝕄 := iprop(semVal ((c : Thread nD τ), .dma (inS b)) 0 ∗ holdAny (F := F) c (xiC b))
/-- Chunk `k` of `x` on its way into its slot. -/
def goIn (k : Fin 8) : sProp 𝕄 :=
  Flight EC (c : Thread nD τ) (.dma (inS (slot k))) () NI iprop(hold c (xiC (slot k)) (chunkOf (x c) k) ∗ hold c (xC k) (chunkOf (x c) k))

/-- What chunk `k` needs to be quantised and sent: its place in the own code and scale buffers, the peer's places for
    them, and the tokens of the four duties its transfers pay. -/
def loc (k : Fin 8) : sProp 𝕄 :=
  iprop((holdAny (F := F) c (qsC k) ∗ holdAny (F := F) c (ssC k)) ∗ (holdAny (F := F) (peer c) (qrC k) ∗ holdAny (F := F) (peer c) (srC k)))
def toks (k : Fin 8) : sProp 𝕄 :=
  iprop((dutyTok ER (cell c (some (0, k))) 0 () ∗ dutyTok ER (cell (peer c) (some (1, k))) 0 ())
    ∗ (dutyTok ER (cell c (some (2, k))) 0 () ∗ dutyTok ER (cell (peer c) (some (3, k))) 0 ()))
/-- Its tickets for the departures, once sent. -/
def sent (k : Fin 8) : sProp 𝕄 :=
  iprop(cred (tallyAt (cell c (some (0, k))) () (amt (some (0, k)))) ∗ cred (tallyAt (cell c (some (2, k))) () (amt (some (2, k)))))

/-- Its tickets and positions for the peer's chunk `k`; -/
def rin (k : Fin 8) : sProp 𝕄 :=
  iprop((cred (tallyAt (cell c (some (1, k))) () (amt (some (1, k)))) ∗ cred (tallyAt (cell c (some (3, k))) () (amt (some (3, k)))))
    ∗ (atPos ER (cell c (some (1, k))) 0 ∅ 0 ∗ atPos ER (cell c (some (3, k))) 0 ∅ 0))
/-- the chunk, received; -/
def got (k : Fin 8) : sProp 𝕄 :=
  iprop(hold c (qrC k) (codes (chunkOf (x (peer c)) k)) ∗ hold c (srC k) (scales (chunkOf (x (peer c)) k)))
def closedR (k : Fin 8) : sProp 𝕄 :=
  iprop(semVal (cell c (some (1, k))) 0 ∗ semVal (cell c (some (3, k))) 0)
/-- and done with. -/
def rout (k : Fin 8) : sProp 𝕄 := iprop((holdAny (F := F) c (qrC k) ∗ holdAny (F := F) c (srC k)) ∗ closedR c k)

/-- Chunk `k` of the result, before; after. -/
def oin (k : Fin 8) : sProp 𝕄 := holdAny (F := F) c (oC k)
def oout (k : Fin 8) : sProp 𝕄 := hold c (oC k) (through (chunkOf (x (peer c)) k))

abbrev NO : ℕ := (oC 0).view.dmaCredit
theorem NO_pos : 0 < NO := View.dmaCredit_pos _ (by decide)

/-- Slot `b` of the write buffer, free. -/
def freeOut (b : Fin 2) : sProp 𝕄 := iprop(semVal ((c : Thread nD τ), .dma (outS b)) 0 ∗ holdAny (F := F) c (xoC b))
/-- Chunk `k` of the result on its way out of its slot. -/
def goOut (k : Fin 8) : sProp 𝕄 :=
  Flight EC (c : Thread nD τ) (.dma (outS (slot k))) () NO
    iprop(hold c (oC k) (through (chunkOf (x (peer c)) k)) ∗ hold c (xoC (slot k)) (through (chunkOf (x (peer c)) k)))

/-- Chunk `k` sent, its departure not yet waited for; -/
def lin (k : Fin 8) : sProp 𝕄 :=
  iprop(sent c k ∗ (atPos ER (cell c (some (0, k))) 0 ∅ 0 ∗ atPos ER (cell c (some (2, k))) 0 ∅ 0))
/-- waited for. -/
def lout (k : Fin 8) : sProp 𝕄 :=
  iprop((holdAny (F := F) c (qsC k) ∗ holdAny (F := F) c (ssC k)) ∗ (semVal (cell c (some (0, k))) 0 ∗ semVal (cell c (some (2, k))) 0))

/-- What each cell of a chunk hands over. -/
theorem pay_qs (k : Fin 8) : pay x c (some (0, k)) ⊢ hold c (qsC k) (codes (chunkOf (x c) k)) := Entails.of_eq rfl
theorem pay_qr (k : Fin 8) : pay x c (some (1, k)) ⊢ hold c (qrC k) (codes (chunkOf (x (peer c)) k)) := Entails.of_eq rfl
theorem pay_ss (k : Fin 8) : pay x c (some (2, k)) ⊢ hold c (ssC k) (scales (chunkOf (x c) k)) := Entails.of_eq rfl
theorem pay_sr (k : Fin 8) : pay x c (some (3, k)) ⊢ hold c (srC k) (scales (chunkOf (x (peer c)) k)) := Entails.of_eq rfl

/-! ## The steps -/

theorem run_ret {α : Type} (a : α) (Φ : α → sProp 𝕄) : Φ a ⊢ run c (.ret a) Φ := by
  show Φ a ⊢ iprop(|={Set.univ}=> Φ a)
  exact fupd_intro

/-- A slot of the fetch buffer held through the squeezed memref and through its slice. -/
theorem slotIn (b : Fin 2) (X : FVec F S512x2048 .f32) : hold c (xiC b) X ⊢ hold c (xiM.slice (rX b) (fun _ => rfl)) (asSlot X) :=
  hold_squeeze c (xiM.slice (rX b) (fun _ => rfl)) squeezes_S1x512x2048_S512x2048 shapeCasts_S512x2048_S1x512x2048 X
theorem inSlot (b : Fin 2) (V : FVec F S1x512x2048 .f32) : hold c (xiM.slice (rX b) (fun _ => rfl)) V ⊢ hold c (xiC b) (ofSlot V) :=
  hold_unsqueeze c (xiM.slice (rX b) (fun _ => rfl)) squeezes_S1x512x2048_S512x2048 shapeCasts_S1x512x2048_S512x2048 V
/-- The same for the write buffer. -/
theorem slotOut (b : Fin 2) (X : FVec F S512x2048 .f32) : hold c (xoC b) X ⊢ hold c (xoM.slice (rX b) (fun _ => rfl)) (asSlot X) :=
  hold_squeeze c (xoM.slice (rX b) (fun _ => rfl)) squeezes_S1x512x2048_S512x2048 shapeCasts_S512x2048_S1x512x2048 X
theorem outSlot (b : Fin 2) (V : FVec F S1x512x2048 .f32) : hold c (xoM.slice (rX b) (fun _ => rfl)) V ⊢ hold c (xoC b) (ofSlot V) :=
  hold_unsqueeze c (xoM.slice (rX b) (fun _ => rfl)) squeezes_S1x512x2048_S512x2048 shapeCasts_S1x512x2048_S512x2048 V

variable (Φ : PUnit → sProp (MT nD τ sig Unit (Elt F) ℕ UU ℕ))

theorem run_stIn (k : Fin 8) : iprop(xin x c k ∗ freeIn c (slot k)) ⊢ iprop((goIn x c k -∗ Φ ⟨⟩) -∗ run c (stIn k) Φ) := by
  unfold xin freeIn goIn stIn Prog.lift
  iintro ⟨Hx, Hs, Hd⟩ Hk
  iapply (run_copy c (src := xC k) (dst := xiC (slot k)) (sm := inS (slot k)) NI rfl NI_pos (chunkOf (x c) k)) $$ [Hx Hs Hd]
  · isplitl [Hx]; · iexact Hx
    isplitl [Hd]; · iexact Hd
    iexact Hs
  iintro Hf
  iapply (run_ret c PUnit.unit Φ)
  iapply Hk; iexact Hf

theorem run_wtIn (k : Fin 8) (n : ℕ) :
    iprop(levAts L lv ∗ goIn x c k ∗ ow c (oweFrom c n))
      ⊢ iprop((iprop(hold c (xiC (slot k)) (chunkOf (x c) k) ∗ xin x c k ∗ semVal ((c : Thread nD τ), .dma (inS (slot k))) 0 ∗ ow c (oweFrom c n)) -∗ Φ ⟨⟩)
        -∗ run c (wtIn k) Φ) := by
  unfold xin goIn wtIn Prog.lift
  iintro ⟨#Hlev, Hf, HO⟩ Hk
  iapply (run_arrive c (srcw := xC k) (dstw := xiC (slot k)) (sm := inS (slot k)) NI rfl _ (oweFrom c n)) $$ [Hf HO]
  · isplitl [Hf]; · iexact Hf
    isplitl [HO]; · iexact HO
    iapply (mayWait_from c _ n (by rw [kind_inS]; decide)); iexact Hlev
  iintro ⟨⟨Hi, Hx⟩, Hv, HO⟩
  iapply (run_ret c PUnit.unit Φ)
  iapply Hk
  isplitl [Hi]; · iexact Hi
  isplitl [Hx]; · iexact Hx
  isplitl [Hv] <;> iassumption

/-- A chunk in its slot is quantised into its places. -/
theorem run_quant (k : Fin 8) (X : FVec F S512x2048 .f32) :
    iprop(hold c (xiC (slot k)) X ∗ holdAny c (qsC k) ∗ holdAny c (ssC k))
      ⊢ iprop((iprop(holdAny (F := F) c (xiC (slot k)) ∗ hold c (qsC k) (codes X) ∗ hold c (ssC k) (scales X)) -∗ Φ ⟨⟩) -∗ run c (quant k) Φ) := by
  unfold quant
  simp only [Prog.lift, Prog.bind_op, Prog.bind_ret]
  iintro ⟨Hi, ⟨%Q, Hq⟩, ⟨%S, Hs⟩⟩ Hk
  ihave Hi := (slotIn c (slot k) X) $$ Hi
  iapply (run_load c (m := xiM) (r := rX (slot k)) (fun _ => rfl) (asSlot X)) $$ Hi
  iintro Hi
  iapply (run_load c (m := ssM) (r := rS k) (fun _ => rfl) S) $$ Hs
  iintro Hs
  iapply (run_store c (m := ssM) (r := rS k) (fun _ => rfl)) $$ [Hs]
  · iexists S; iexact Hs
  iintro Hs
  iapply (run_load c (m := qsM) (r := rC k) (fun _ => rfl) Q) $$ Hq
  iintro Hq
  iapply (run_store c (m := qsM) (r := rC k) (fun _ => rfl)) $$ [Hq]
  · iexists Q; iexact Hq
  iintro Hq
  iapply (run_ret c PUnit.unit Φ)
  iapply Hk
  isplitl [Hi]
  · iexists _
    iapply (inSlot c (slot k) (asSlot X)) $$ Hi
  isplitl [Hq]; · iexact Hq
  iexact Hs

theorem run_sendQ (k : Fin 8) (n : ℕ) (O : CellTallies nD τ sig Unit) (hO : oweFrom c n = O + oweQ c k) :
    iprop(records x K ∗ hold c (qsC k) (codes (chunkOf (x c) k)) ∗ holdAny (peer c) (qrC k) ∗ ow c (oweFrom c n)
        ∗ dutyTok ER (cell c (some (0, k))) 0 () ∗ dutyTok ER (cell (peer c) (some (1, k))) 0 ())
      ⊢ iprop((iprop(cred (tallyAt (cell c (some (0, k))) () (amt (some (0, k)))) ∗ ow c O) -∗ Φ ⟨⟩) -∗ run c (sendQ (peer c) k) Φ) := by
  unfold sendQ Prog.lift
  iintro H Hk
  iapply (run_send x K c (i := some (0, k)) (j := some (1, k)) (src := qsC k) (dst := qrC k) (codes (chunkOf (x c) k)) rfl rfl O hO
    (Entails.of_eq rfl) (Entails.of_eq (by dsimp only [pay]; rw [peer_peer]))) $$ H
  iintro H
  iapply (run_ret c PUnit.unit Φ)
  iapply Hk; iexact H

theorem run_sendS (k : Fin 8) (O O' : CellTallies nD τ sig Unit) (hO : O' = O + oweS c k) :
    iprop(records x K ∗ hold c (ssC k) (scales (chunkOf (x c) k)) ∗ holdAny (peer c) (srC k) ∗ ow c O'
        ∗ dutyTok ER (cell c (some (2, k))) 0 () ∗ dutyTok ER (cell (peer c) (some (3, k))) 0 ())
      ⊢ iprop((iprop(cred (tallyAt (cell c (some (2, k))) () (amt (some (2, k)))) ∗ ow c O) -∗ Φ ⟨⟩) -∗ run c (sendS (peer c) k) Φ) := by
  unfold sendS Prog.lift
  iintro H Hk
  iapply (run_send x K c (i := some (2, k)) (j := some (3, k)) (src := ssC k) (dst := srC k) (scales (chunkOf (x c) k)) rfl rfl O hO
    (Entails.of_eq rfl) (Entails.of_eq (by dsimp only [pay]; rw [peer_peer]))) $$ H
  iintro H
  iapply (run_ret c PUnit.unit Φ)
  iapply Hk; iexact H

/-- Chunk `k`, on its way in, is quantised and sent. -/
theorem run_chunkA (k : Fin 8) :
    iprop(records x K ∗ levAts L lv ∗ goIn x c k ∗ loc c k ∗ toks c k ∗ ow c (oweFrom c k.val))
      ⊢ iprop((iprop(freeIn c (slot k) ∗ xin x c k ∗ sent c k ∗ ow c (oweFrom c (k.val + 1))) -∗ Φ ⟨⟩) -∗ run c (chunkA (peer c) k) Φ) := by
  unfold chunkA loc toks
  simp only [wp_bind]
  iintro ⟨#HR, #Hlev, Hf, ⟨⟨Hq, Hs⟩, Hpq, Hps⟩, ⟨⟨Ht0, Ht1⟩, Ht2, Ht3⟩, HO⟩ Hk
  iapply (run_wtIn x c _ k k.val) $$ [Hf HO]
  · isplitr; · iexact Hlev
    isplitl [Hf] <;> iassumption
  iintro ⟨Hi, Hx, Hv, HO⟩
  iapply (run_quant c _ k) $$ [Hi Hq Hs]
  · isplitl [Hi]; · iexact Hi
    isplitl [Hq] <;> iassumption
  iintro ⟨Hi, Hq, Hs⟩
  iapply (run_sendQ x K c _ k k.val _ (oweFrom_step c k)) $$ [Hq Hpq HO Ht0 Ht1]
  · isplitr; · iexact HR
    isplitl [Hq]; · iexact Hq
    isplitl [Hpq]; · iexact Hpq
    isplitl [HO]; · iexact HO
    isplitl [Ht0] <;> iassumption
  iintro ⟨Hcq, HO⟩
  iapply (run_sendS x K c _ k _ _ rfl) $$ [Hs Hps HO Ht2 Ht3]
  · isplitr; · iexact HR
    isplitl [Hs]; · iexact Hs
    isplitl [Hps]; · iexact Hps
    isplitl [HO]; · iexact HO
    isplitl [Ht2] <;> iassumption
  iintro ⟨Hcs, HO⟩
  iapply Hk
  unfold freeIn sent
  isplitl [Hi Hv]
  · isplitl [Hv] <;> iassumption
  isplitl [Hx]; · iexact Hx
  isplitl [Hcq Hcs]
  · isplitl [Hcq] <;> iassumption
  iexact HO

/-- The peer's chunk `k` is waited for. -/
theorem run_rcv (k : Fin 8) :
    iprop(records x K ∗ rin c k ∗ ow c 0)
      ⊢ iprop((iprop(got x c k ∗ closedR c k ∗ ow c 0) -∗ Φ ⟨⟩) -∗ run c (rcv k) Φ) := by
  unfold rcv rin rcvQ rcvS
  simp only [wp_bind]
  unfold Prog.lift
  iintro ⟨#HR, ⟨⟨Hc1, Hc3⟩, Ha1, Ha3⟩, HO⟩ Hk
  iapply (run_wait x K c (i := some (1, k)) (wpE_waitDma2_eq (sem := qrS k) (src := qsC k) (dst := qrC k) 𝒱₀ (c : Thread nD τ) none Set.univ) 0) $$ [Hc1 Ha1 HO]
  · isplitr; · iexact HR
    isplitl [Hc1]; · iexact Hc1
    isplitl [HO]; · iexact HO
    isplitr; · iapply (mayWait_done c); iempintro
    iexact Ha1
  iintro ⟨HO, Hz1, Hp1⟩
  iapply (run_ret c PUnit.unit)
  iapply (run_wait x K c (i := some (3, k)) (wpE_waitDma2_eq (sem := srS k) (src := ssC k) (dst := srC k) 𝒱₀ (c : Thread nD τ) none Set.univ) 0) $$ [Hc3 Ha3 HO]
  · isplitr; · iexact HR
    isplitl [Hc3]; · iexact Hc3
    isplitl [HO]; · iexact HO
    isplitr; · iapply (mayWait_done c); iempintro
    iexact Ha3
  iintro ⟨HO, Hz3, Hp3⟩
  iapply (run_ret c PUnit.unit Φ)
  iapply Hk
  unfold got closedR
  isplitl [Hp1 Hp3]
  · isplitl [Hp1]
    · iapply (pay_qr x c k) $$ Hp1
    · iapply (pay_sr x c k) $$ Hp3
  isplitl [Hz1 Hz3]
  · isplitl [Hz1] <;> iassumption
  iexact HO

/-- The departure of chunk `k` is waited for. -/
theorem run_left (k : Fin 8) :
    iprop(records x K ∗ lin c k ∗ ow c 0)
      ⊢ iprop((iprop(lout c k ∗ ow c 0) -∗ Φ ⟨⟩) -∗ run c (left k) Φ) := by
  unfold left lin sent wtQ wtS
  simp only [wp_bind]
  unfold Prog.lift
  iintro ⟨#HR, ⟨⟨Hc1, Hc3⟩, Ha1, Ha3⟩, HO⟩ Hk
  iapply (run_wait x K c (i := some (0, k)) (wpE_waitDma2_eq (sem := qsS k) (src := qrC k) (dst := qsC k) 𝒱₀ (c : Thread nD τ) none Set.univ) 0) $$ [Hc1 Ha1 HO]
  · isplitr; · iexact HR
    isplitl [Hc1]; · iexact Hc1
    isplitl [HO]; · iexact HO
    isplitr; · iapply (mayWait_done c); iempintro
    iexact Ha1
  iintro ⟨HO, Hz1, Hp1⟩
  iapply (run_ret c PUnit.unit)
  iapply (run_wait x K c (i := some (2, k)) (wpE_waitDma2_eq (sem := ssS k) (src := srC k) (dst := ssC k) 𝒱₀ (c : Thread nD τ) none Set.univ) 0) $$ [Hc3 Ha3 HO]
  · isplitr; · iexact HR
    isplitl [Hc3]; · iexact Hc3
    isplitl [HO]; · iexact HO
    isplitr; · iapply (mayWait_done c); iempintro
    iexact Ha3
  iintro ⟨HO, Hz3, Hp3⟩
  iapply (run_ret c PUnit.unit Φ)
  iapply Hk
  unfold lout
  isplitl [Hp1 Hp3 Hz1 Hz3]
  · isplitl [Hp1 Hp3]
    · isplitl [Hp1]
      · iexists _; iapply (pay_qs x c k) $$ Hp1
      · iexists _; iapply (pay_ss x c k) $$ Hp3
    isplitl [Hz1] <;> iassumption
  iexact HO

/-- The peer's chunk is dequantised into the slot and starts on its way out. -/
theorem run_chunkB (k : Fin 8) :
    iprop(got x c k ∗ freeOut c (slot k) ∗ oin c k)
      ⊢ iprop((iprop((holdAny (F := F) c (qrC k) ∗ holdAny (F := F) c (srC k)) ∗ goOut x c k) -∗ Φ ⟨⟩) -∗ run c (chunkB k) Φ) := by
  unfold chunkB deq stOut got freeOut oin
  simp only [wp_bind]
  simp only [Prog.lift]
  iintro ⟨⟨Hq, Hs⟩, ⟨Hv, ⟨%Z, Hz⟩⟩, Ho⟩ Hk
  iapply (run_load c (m := qrM) (r := rC k) (fun _ => rfl) (codes (chunkOf (x (peer c)) k))) $$ Hq
  iintro Hq
  iapply (run_ret c (α := Vec F S512x2048 .i8))
  iapply (run_load c (m := srM) (r := rS k) (fun _ => rfl) (scales (chunkOf (x (peer c)) k))) $$ Hs
  iintro Hs
  iapply (run_ret c (α := Vec F S1x2048 .f32))
  ihave Hz := (slotOut c (slot k) Z) $$ Hz
  iapply (run_load c (m := xoM) (r := rX (slot k)) (fun _ => rfl) (asSlot Z)) $$ Hz
  iintro Hz
  iapply (run_ret c (α := Vec F S1x512x2048 .f32))
  iapply (run_store c (m := xoM) (r := rX (slot k)) (fun _ => rfl)) $$ [Hz]
  · iexists _; iexact Hz
  iintro Hz
  iapply (run_ret c PUnit.unit)
  ihave Hz := (outSlot c (slot k) (deqP (codes (chunkOf (x (peer c)) k)) (scales (chunkOf (x (peer c)) k)))) $$ Hz
  iapply (run_copy c (src := xoC (slot k)) (dst := oC k) (sm := outS (slot k)) NO rfl NO_pos (through (chunkOf (x (peer c)) k))) $$ [Hz Ho Hv]
  · isplitl [Hz]; · iexact Hz
    isplitl [Ho] <;> iassumption
  iintro Hf
  iapply (run_ret c PUnit.unit Φ)
  iapply Hk
  isplitl [Hq Hs]
  · isplitl [Hq]
    · iexists _; iexact Hq
    · iexists _; iexact Hs
  unfold goOut
  iexact Hf

/-- Chunk `k` of the result is waited for. -/
theorem run_wtOut (k : Fin 8) :
    iprop(goOut x c k ∗ ow c 0) ⊢ iprop((iprop(oout x c k ∗ freeOut c (slot k) ∗ ow c 0) -∗ Φ ⟨⟩) -∗ run c (wtOut k) Φ) := by
  unfold goOut wtOut oout freeOut Prog.lift
  iintro ⟨Hf, HO⟩ Hk
  iapply (run_arrive c (srcw := xoC (slot k)) (dstw := oC k) (sm := outS (slot k)) NO rfl _ 0) $$ [Hf HO]
  · isplitl [Hf]; · iexact Hf
    isplitl [HO]; · iexact HO
    iapply (mayWait_done c); iempintro
  iintro ⟨⟨Ho, Hz⟩, Hv, HO⟩
  iapply (run_ret c PUnit.unit Φ)
  iapply Hk
  isplitl [Ho]; · iexact Ho
  isplitl [Hv Hz]
  · isplitl [Hv]; · iexact Hv
    iexists _; iexact Hz
  iexact HO

end Cert.Exchange
-- ==== Proof.Exchange.lean ====
/-
The whole exchange: the eight chunks in the program's order, from tables of what is still to do and what is done.
-/
module

public import proofs.«01_k».proof.Proof.Chunks

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

/-! ## Tables over the eight chunks -/

/-- `P` at every chunk from `n` on; at every chunk before `n`. -/
def todo (n : ℕ) (P : Fin 8 → sProp 𝕄) : sProp 𝕄 := bigSep (Finset.univ.filter fun j : Fin 8 => n ≤ j.val) P
def done (n : ℕ) (P : Fin 8 → sProp 𝕄) : sProp 𝕄 := bigSep (Finset.univ.filter fun j : Fin 8 => j.val < n) P

theorem todo_pop (k : Fin 8) (P : Fin 8 → sProp 𝕄) : todo k.val P = iprop(P k ∗ todo (k.val + 1) P) := by
  unfold todo; rw [filter_from, bigSep_insert (not_mem_from k)]; rfl
theorem done_push (k : Fin 8) (P : Fin 8 → sProp 𝕄) : done (k.val + 1) P = iprop(P k ∗ done k.val P) := by
  unfold done
  rw [show Finset.univ.filter (fun j : Fin 8 => j.val < k.val + 1) = insert k (Finset.univ.filter fun j : Fin 8 => j.val < k.val) by revert k; decide,
    bigSep_insert (by revert k; decide)]; rfl
theorem todo_all (P : Fin 8 → sProp 𝕄) : todo 0 P = bigSep Finset.univ P := by
  unfold todo; rw [show Finset.univ.filter (fun j : Fin 8 => 0 ≤ j.val) = Finset.univ by decide]
theorem done_all (P : Fin 8 → sProp 𝕄) : done 8 P = bigSep Finset.univ P := by
  unfold done; rw [show Finset.univ.filter (fun j : Fin 8 => j.val < 8) = Finset.univ by decide]
theorem done_none (P : Fin 8 → sProp 𝕄) : done 0 P = iprop(emp) := by
  unfold done; rw [show Finset.univ.filter (fun j : Fin 8 => j.val < 0) = ∅ by decide, bigSep_empty]; rfl
theorem todo_none (P : Fin 8 → sProp 𝕄) : todo 8 P = iprop(emp) := by
  unfold todo; rw [show Finset.univ.filter (fun j : Fin 8 => 8 ≤ j.val) = ∅ by decide, bigSep_empty]; rfl

theorem done_last (P : Fin 8 → sProp 𝕄) : done 8 P = iprop(P 7 ∗ done (7 : Fin 8).val P) := done_push 7 P

theorem run_bind (c : Dev nD) (p : PR (F := F)) (k : PUnit → PR (F := F)) (Φ : PUnit → sProp (MT nD τ sig Unit (Elt F) ℕ UU ℕ)) :
    run c (p >>= k) Φ = run c p fun a => run c (k a) Φ := wp_bind _ _ _ _ _ _

variable (x : Dev nD → FVec F S4096x2048 .f32) (K : Dev nD × CI → ℕ) (c : Dev nD)

/-! ## Quantising and sending -/

/-- The slot chunk `k` does not go through. -/
def other (k : Fin 8) : Fin 2 := ⟨(k.val + 1) % 2, Nat.mod_lt _ (by decide)⟩

theorem slot_succ {k k' : Fin 8} (h : k'.val = k.val + 1) : slot k' = other k := Fin.ext (by show k'.val % 2 = (k.val + 1) % 2; rw [h])
theorem other_succ {k k' : Fin 8} (h : k'.val = k.val + 1) : other k' = slot k := Fin.ext (by show (k'.val + 1) % 2 = k.val % 2; rw [h]; omega)

/-- Chunk `k` is on its way in; those before it are sent. -/
def stA (k : Fin 8) : sProp 𝕄 :=
  iprop((todo (k.val + 1) (xin x c) ∗ done k.val (xin x c)) ∗ (goIn x c k ∗ freeIn c (other k))
    ∗ (todo k.val (loc (F := F) c) ∗ todo k.val (toks (F := F) c) ∗ done k.val (sent (F := F) c)) ∗ ow c (oweFrom c k.val))

theorem run_A {k k' : Fin 8} (h : k'.val = k.val + 1) (rest : PUnit → PR (F := F)) (Φ : PUnit → sProp (MT nD τ sig Unit (Elt F) ℕ UU ℕ)) :
    iprop(records x K ∗ levAts L lv ∗ stA x c k)
      ⊢ iprop((stA x c k' -∗ run c (rest ⟨⟩) Φ) -∗ run c (stIn k' >>= fun _ => chunkA (peer c) k >>= rest) Φ) := by
  simp only [wp_bind]
  unfold stA
  rw [other_succ h, ← slot_succ h, ← h, todo_pop k' (xin x c), todo_pop k (loc (F := F) c), todo_pop k (toks (F := F) c), h]
  rw [done_push k (xin x c), done_push k (sent (F := F) c), ← h]
  iintro ⟨#HR, #Hlev, ⟨⟨Hx', Hxt⟩, Hxd⟩, ⟨Hf, Hfree⟩, ⟨⟨Hl, Hlt⟩, ⟨Ht, Htt⟩, Hs⟩, HO⟩ Hk
  iapply (run_stIn x c _ k') $$ [Hx' Hfree]
  · isplitl [Hx'] <;> iassumption
  iintro Hf'
  iapply (run_chunkA x K c _ k) $$ [Hf Hl Ht HO]
  · isplitr; · iexact HR
    isplitr; · iexact Hlev
    isplitl [Hf]; · iexact Hf
    isplitl [Hl]; · iexact Hl
    isplitl [Ht] <;> iassumption
  rw [← h]
  iintro ⟨Hfree, Hx, Hs', HO⟩
  iapply Hk
  isplitl [Hxt Hx Hxd]
  · isplitl [Hxt]; · iexact Hxt
    isplitl [Hx] <;> iassumption
  isplitl [Hf' Hfree]
  · isplitl [Hf'] <;> iassumption
  isplitr [HO]
  · isplitl [Hlt]; · iexact Hlt
    isplitl [Htt]; · iexact Htt
    isplitl [Hs'] <;> iassumption
  iexact HO

/-- Every chunk is sent. -/
def endA : sProp 𝕄 :=
  iprop(bigSep Finset.univ (xin x c) ∗ (freeIn (F := F) c 0 ∗ freeIn (F := F) c 1) ∗ bigSep Finset.univ (sent (F := F) c) ∗ ow (F := F) c 0)

theorem run_lastA (rest : PUnit → PR (F := F)) (Φ : PUnit → sProp (MT nD τ sig Unit (Elt F) ℕ UU ℕ)) :
    iprop(records x K ∗ levAts L lv ∗ stA x c 7)
      ⊢ iprop((endA x c -∗ run c (rest ⟨⟩) Φ) -∗ run c (chunkA (peer c) 7 >>= rest) Φ) := by
  rw [run_bind]
  unfold stA endA
  rw [todo_pop 7 (loc (F := F) c), todo_pop 7 (toks (F := F) c), ← done_all, ← done_all, done_last, done_last]
  iintro ⟨#HR, #Hlev, ⟨-, Hxd⟩, ⟨Hf, Hfree⟩, ⟨⟨Hl, -⟩, ⟨Ht, -⟩, Hs⟩, HO⟩ Hk
  iapply (run_chunkA x K c _ 7) $$ [Hf Hl Ht HO]
  · isplitr; · iexact HR
    isplitr; · iexact Hlev
    isplitl [Hf]; · iexact Hf
    isplitl [Hl]; · iexact Hl
    isplitl [Ht] <;> iassumption
  rw [show oweFrom c ((7 : Fin 8).val + 1) = 0 from oweFrom_8 c]
  iintro ⟨Hfree', Hx, Hs', HO⟩
  iapply Hk
  isplitl [Hx Hxd]
  · isplitl [Hx] <;> iassumption
  isplitl [Hfree' Hfree]
  · isplitl [Hfree]; · iexact Hfree
    iexact Hfree'
  isplitl [Hs' Hs]
  · isplitl [Hs'] <;> iassumption
  iexact HO

/-! ## Receiving and writing out -/

/-- The slot of the write buffer that comes up at turn `n`: free at first, then holding the chunk of two turns before. -/
def oslot (n : ℕ) : sProp 𝕄 := if h : 2 ≤ n ∧ n < 10 then goOut x c ⟨n - 2, by omega⟩ else freeOut c ⟨n % 2, Nat.mod_lt _ (by decide)⟩

theorem oslot_first {k : Fin 8} (h : k.val < 2) : oslot x c k.val = freeOut c (slot k) := by
  unfold oslot; rw [dif_neg (by omega)]; rfl
theorem oslot_later (k : Fin 8) : oslot x c (k.val + 2) = goOut x c k := by
  unfold oslot; rw [dif_pos ⟨by omega, by omega⟩]; rfl

/-- The chunks before `n` are received, those two turns back are written. -/
def stB (n : ℕ) : sProp 𝕄 :=
  iprop((todo n (rin (F := F) c) ∗ done n (rout (F := F) c)) ∗ (todo n (oin (F := F) c) ∗ done (n - 2) (oout x c))
    ∗ (oslot x c n ∗ oslot x c (n + 1)) ∗ ow c 0)

theorem run_B_first {k : Fin 8} (h : k.val < 2) (rest : PUnit → PR (F := F)) (Φ : PUnit → sProp (MT nD τ sig Unit (Elt F) ℕ UU ℕ)) :
    iprop(records x K ∗ stB x c k.val)
      ⊢ iprop((stB x c (k.val + 1) -∗ run c (rest ⟨⟩) Φ) -∗ run c (rcv k >>= fun _ => chunkB k >>= rest) Φ) := by
  simp only [wp_bind]
  unfold stB
  rw [todo_pop k (rin (F := F) c), todo_pop k (oin (F := F) c), done_push k (rout (F := F) c), oslot_first x c h, oslot_later x c k,
    show k.val + 1 - 2 = 0 by omega, show k.val - 2 = 0 by omega]
  iintro ⟨#HR, ⟨⟨Hr, Hrt⟩, Hrd⟩, ⟨⟨Ho, Hot⟩, Hod⟩, ⟨Hs, Hs'⟩, HO⟩ Hk
  iapply (run_rcv x K c _ k) $$ [Hr HO]
  · isplitr; · iexact HR
    isplitl [Hr] <;> iassumption
  iintro ⟨Hg, Hc, HO⟩
  iapply (run_chunkB x c _ k) $$ [Hg Hs Ho]
  · isplitl [Hg]; · iexact Hg
    isplitl [Hs] <;> iassumption
  iintro ⟨Hg, Hf⟩
  iapply Hk
  unfold rout
  isplitl [Hrt Hrd Hg Hc]
  · isplitl [Hrt]; · iexact Hrt
    isplitl [Hg Hc]
    · isplitl [Hg] <;> iassumption
    iexact Hrd
  isplitl [Hot Hod]
  · isplitl [Hot] <;> iassumption
  isplitl [Hs' Hf]
  · isplitl [Hs'] <;> iassumption
  iexact HO

theorem run_B {j k : Fin 8} (h : k.val = j.val + 2) (rest : PUnit → PR (F := F)) (Φ : PUnit → sProp (MT nD τ sig Unit (Elt F) ℕ UU ℕ)) :
    iprop(records x K ∗ stB x c k.val)
      ⊢ iprop((stB x c (k.val + 1) -∗ run c (rest ⟨⟩) Φ) -∗ run c (rcv k >>= fun _ => wtOut j >>= fun _ => chunkB k >>= rest) Φ) := by
  simp only [wp_bind]
  unfold stB
  rw [todo_pop k (rin (F := F) c), todo_pop k (oin (F := F) c), done_push k (rout (F := F) c), oslot_later x c k,
    show oslot x c k.val = goOut x c j by rw [h, oslot_later], show k.val + 1 - 2 = j.val + 1 by omega, show k.val - 2 = j.val by omega,
    done_push j (oout x c)]
  iintro ⟨#HR, ⟨⟨Hr, Hrt⟩, Hrd⟩, ⟨⟨Ho, Hot⟩, Hod⟩, ⟨Hs, Hs'⟩, HO⟩ Hk
  iapply (run_rcv x K c _ k) $$ [Hr HO]
  · isplitr; · iexact HR
    isplitl [Hr] <;> iassumption
  iintro ⟨Hg, Hc, HO⟩
  iapply (run_wtOut x c _ j) $$ [Hs HO]
  · isplitl [Hs] <;> iassumption
  rw [show slot j = slot k from Fin.ext (by show j.val % 2 = k.val % 2; rw [h]; omega)]
  iintro ⟨Hw, Hs, HO⟩
  iapply (run_chunkB x c _ k) $$ [Hg Hs Ho]
  · isplitl [Hg]; · iexact Hg
    isplitl [Hs] <;> iassumption
  iintro ⟨Hg, Hf⟩
  iapply Hk
  unfold rout
  isplitl [Hrt Hrd Hg Hc]
  · isplitl [Hrt]; · iexact Hrt
    isplitl [Hg Hc]
    · isplitl [Hg] <;> iassumption
    iexact Hrd
  isplitl [Hot Hod Hw]
  · isplitl [Hot]; · iexact Hot
    isplitl [Hw] <;> iassumption
  isplitl [Hs' Hf]
  · isplitl [Hs'] <;> iassumption
  iexact HO

/-- Every chunk is received and written. -/
def endB : sProp 𝕄 :=
  iprop(bigSep Finset.univ (rout (F := F) c) ∗ bigSep Finset.univ (oout x c) ∗ (freeOut (F := F) c 0 ∗ freeOut (F := F) c 1) ∗ ow (F := F) c 0)

theorem run_lastB (rest : PUnit → PR (F := F)) (Φ : PUnit → sProp (MT nD τ sig Unit (Elt F) ℕ UU ℕ)) :
    stB x c 8 ⊢ iprop((endB x c -∗ run c (rest ⟨⟩) Φ) -∗ run c (wtOut 6 >>= fun _ => wtOut 7 >>= rest) Φ) := by
  simp only [wp_bind]
  unfold stB endB
  rw [done_all, show oslot x c 8 = goOut x c 6 from oslot_later x c 6, show oslot x c (8 + 1) = goOut x c 7 from oslot_later x c 7,
    ← done_all (oout x c), done_last (oout x c), show done (7 : Fin 8).val (oout x c) = iprop(oout x c 6 ∗ done (8 - 2) (oout x c)) from done_push 6 _]
  iintro ⟨⟨-, Hrd⟩, ⟨-, Hod⟩, ⟨Hs, Hs'⟩, HO⟩ Hk
  iapply (run_wtOut x c _ 6) $$ [Hs HO]
  · isplitl [Hs] <;> iassumption
  iintro ⟨Hw, Hs, HO⟩
  iapply (run_wtOut x c _ 7) $$ [Hs' HO]
  · isplitl [Hs'] <;> iassumption
  iintro ⟨Hw', Hs', HO⟩
  iapply Hk
  isplitl [Hrd]; · iexact Hrd
  isplitl [Hw Hw' Hod]
  · isplitl [Hw']; · iexact Hw'
    isplitl [Hw]; · iexact Hw
    iexact Hod
  isplitl [Hs Hs']
  · isplitl [Hs]; · iexact Hs
    iexact Hs'
  iexact HO

/-! ## The departures -/

def stC (n : ℕ) : sProp 𝕄 := iprop((todo n (lin (F := F) c) ∗ done n (lout (F := F) c)) ∗ ow (F := F) c 0)

theorem run_C (k : Fin 8) (Φ : PUnit → sProp (MT nD τ sig Unit (Elt F) ℕ UU ℕ)) :
    iprop(records x K ∗ stC (F := F) c k.val) ⊢ iprop((stC (F := F) c (k.val + 1) -∗ Φ ⟨⟩) -∗ run c (left k) Φ) := by
  unfold stC
  rw [todo_pop k (lin (F := F) c), done_push k (lout (F := F) c)]
  iintro ⟨#HR, ⟨⟨Hl, Hlt⟩, Hld⟩, HO⟩ Hk
  iapply (run_left x K c _ k) $$ [Hl HO]
  · isplitr; · iexact HR
    isplitl [Hl] <;> iassumption
  iintro ⟨Hl, HO⟩
  iapply Hk
  isplitr [HO]
  · isplitl [Hlt]; · iexact Hlt
    isplitl [Hl] <;> iassumption
  iexact HO

/-! ## The exchange -/

/-- Positions on the departures' cells. -/
def posL (k : Fin 8) : sProp 𝕄 := iprop(atPos ER (cell c (some (0, k))) 0 ∅ 0 ∗ atPos ER (cell c (some (2, k))) 0 ∅ 0)

/-- What the exchange starts from. -/
def exchPre : sProp 𝕄 :=
  iprop((bigSep Finset.univ (xin x c) ∗ bigSep Finset.univ (oin (F := F) c))
    ∗ ((freeIn (F := F) c 0 ∗ freeIn (F := F) c 1) ∗ (freeOut (F := F) c 0 ∗ freeOut (F := F) c 1))
    ∗ (bigSep Finset.univ (loc (F := F) c) ∗ bigSep Finset.univ (toks (F := F) c))
    ∗ (bigSep Finset.univ (rin (F := F) c) ∗ bigSep Finset.univ (posL (F := F) c))
    ∗ ow (F := F) c (oweFrom c 0))

/-- What it ends in: `x` as it was, the result written, everything else free. -/
def exchPost : sProp 𝕄 :=
  iprop((bigSep Finset.univ (xin x c) ∗ bigSep Finset.univ (oout x c))
    ∗ ((freeIn (F := F) c 0 ∗ freeIn (F := F) c 1) ∗ (freeOut (F := F) c 0 ∗ freeOut (F := F) c 1))
    ∗ (bigSep Finset.univ (rout (F := F) c) ∗ bigSep Finset.univ (lout (F := F) c))
    ∗ ow (F := F) c 0)

set_option maxHeartbeats 1000000 in
theorem run_exchange (Φ : PUnit → sProp (MT nD τ sig Unit (Elt F) ℕ UU ℕ)) :
    iprop(records x K ∗ levAts L lv ∗ exchPre x c) ⊢ iprop((exchPost x c -∗ Φ ⟨⟩) -∗ run c (exchange (peer c)) Φ) := by
  unfold exchange exchPre
  rw [run_bind, show bigSep Finset.univ (xin x c) = iprop(xin x c 0 ∗ todo ((0 : Fin 8).val + 1) (xin x c)) from (todo_all _).symm.trans (todo_pop 0 _)]
  iintro ⟨#HR, #Hlev, ⟨⟨Hx0, Hx⟩, Ho⟩, ⟨⟨Hi0, Hi1⟩, Ho0, Ho1⟩, ⟨Hl, Ht⟩, ⟨Hr, Hp⟩, HO⟩ Hk
  iapply (run_stIn x c _ 0) $$ [Hx0 Hi0]
  · isplitl [Hx0]; · iexact Hx0
    iexact Hi0
  iintro Hf
  ihave HA := (show iprop(todo ((0 : Fin 8).val + 1) (xin x c) ∗ (goIn x c 0 ∗ freeIn c 1) ∗ bigSep Finset.univ (loc (F := F) c) ∗ bigSep Finset.univ (toks (F := F) c)
      ∗ ow c (oweFrom c 0)) ⊢ stA x c 0 from by
    unfold stA
    rw [show (0 : Fin 8).val = 0 from rfl, done_none, done_none, todo_all, todo_all]
    iintro ⟨Hx, ⟨Hf, Hi⟩, Hl, Ht, HO⟩
    isplitl [Hx]
    · isplitl [Hx]; · iexact Hx
      iempintro
    isplitl [Hf Hi]
    · isplitl [Hf]; · iexact Hf
      iexact Hi
    isplitr [HO]
    · isplitl [Hl]; · iexact Hl
      isplitl [Ht]; · iexact Ht
      iempintro
    iexact HO) $$ [Hx Hf Hi1 Hl Ht HO]
  · isplitl [Hx]; · iexact Hx
    isplitl [Hf Hi1]
    · isplitl [Hf] <;> iassumption
    isplitl [Hl]; · iexact Hl
    isplitl [Ht] <;> iassumption
  iapply (run_A x K c (k := 0) (k' := 1) rfl) $$ [HA]
  · isplitr; · iexact HR
    isplitr; · iexact Hlev
    iexact HA
  iintro HA
  iapply (run_A x K c (k := 1) (k' := 2) rfl) $$ [HA]
  · isplitr; · iexact HR
    isplitr; · iexact Hlev
    iexact HA
  iintro HA
  iapply (run_A x K c (k := 2) (k' := 3) rfl) $$ [HA]
  · isplitr; · iexact HR
    isplitr; · iexact Hlev
    iexact HA
  iintro HA
  iapply (run_A x K c (k := 3) (k' := 4) rfl) $$ [HA]
  · isplitr; · iexact HR
    isplitr; · iexact Hlev
    iexact HA
  iintro HA
  iapply (run_A x K c (k := 4) (k' := 5) rfl) $$ [HA]
  · isplitr; · iexact HR
    isplitr; · iexact Hlev
    iexact HA
  iintro HA
  iapply (run_A x K c (k := 5) (k' := 6) rfl) $$ [HA]
  · isplitr; · iexact HR
    isplitr; · iexact Hlev
    iexact HA
  iintro HA
  iapply (run_A x K c (k := 6) (k' := 7) rfl) $$ [HA]
  · isplitr; · iexact HR
    isplitr; · iexact Hlev
    iexact HA
  iintro HA
  iapply (run_lastA x K c) $$ [HA]
  · isplitr; · iexact HR
    isplitr; · iexact Hlev
    iexact HA
  unfold endA
  iintro ⟨Hx, ⟨Hi0, Hi1⟩, Hs, HO⟩
  ihave HB := (show iprop(bigSep Finset.univ (rin (F := F) c) ∗ bigSep Finset.univ (oin (F := F) c) ∗ (freeOut (F := F) c 0 ∗ freeOut (F := F) c 1) ∗ ow (F := F) c 0)
      ⊢ stB x c (0 : Fin 8).val from by
    unfold stB
    rw [show oslot x c (0 : Fin 8).val = freeOut c 0 from oslot_first x c (k := 0) (by decide),
      show oslot x c ((0 : Fin 8).val + 1) = freeOut c 1 from oslot_first x c (k := 1) (by decide), show (0 : Fin 8).val = 0 from rfl, show 0 - 2 = 0 from rfl, done_none, done_none,
      todo_all, todo_all]
    iintro ⟨Hr, Ho, Hs, HO⟩
    isplitl [Hr]
    · isplitl [Hr]; · iexact Hr
      iempintro
    isplitl [Ho]
    · isplitl [Ho]; · iexact Ho
      iempintro
    isplitl [Hs] <;> iassumption) $$ [Hr Ho Ho0 Ho1 HO]
  · isplitl [Hr]; · iexact Hr
    isplitl [Ho]; · iexact Ho
    isplitl [Ho0 Ho1]
    · isplitl [Ho0] <;> iassumption
    iexact HO
  iapply (run_B_first x K c (k := 0) (by decide)) $$ [HB]
  · isplitr; · iexact HR
    iexact HB
  iintro HB
  iapply (run_B_first x K c (k := 1) (by decide)) $$ [HB]
  · isplitr; · iexact HR
    iexact HB
  iintro HB
  iapply (run_B x K c (j := 0) (k := 2) rfl) $$ [HB]
  · isplitr; · iexact HR
    iexact HB
  iintro HB
  iapply (run_B x K c (j := 1) (k := 3) rfl) $$ [HB]
  · isplitr; · iexact HR
    iexact HB
  iintro HB
  iapply (run_B x K c (j := 2) (k := 4) rfl) $$ [HB]
  · isplitr; · iexact HR
    iexact HB
  iintro HB
  iapply (run_B x K c (j := 3) (k := 5) rfl) $$ [HB]
  · isplitr; · iexact HR
    iexact HB
  iintro HB
  iapply (run_B x K c (j := 4) (k := 6) rfl) $$ [HB]
  · isplitr; · iexact HR
    iexact HB
  iintro HB
  iapply (run_B x K c (j := 5) (k := 7) rfl) $$ [HB]
  · isplitr; · iexact HR
    iexact HB
  iintro HB
  iapply (run_lastB x c) $$ [HB]
  · iexact HB
  unfold endB
  iintro ⟨Hr, Ho, Hfo, HO⟩
  ihave HC := (show iprop(bigSep Finset.univ (sent (F := F) c) ∗ bigSep Finset.univ (posL (F := F) c) ∗ ow (F := F) c 0) ⊢ stC (F := F) c (0 : Fin 8).val from by
    unfold stC
    rw [show (0 : Fin 8).val = 0 from rfl, done_none, todo_all]
    iintro ⟨Hs, Hp, HO⟩
    isplitr [HO]
    · isplitl [Hs Hp]
      · unfold lin posL
        rw [bigSep_sep' Finset.univ (sent (F := F) c)]
        isplitl [Hs] <;> iassumption
      iempintro
    iexact HO) $$ [Hs Hp HO]
  · isplitl [Hs]; · iexact Hs
    isplitl [Hp] <;> iassumption
  simp only [wp_bind]
  iapply (run_C x K c 0) $$ [HC]
  · isplitr; · iexact HR
    iexact HC
  iintro HC
  iapply (run_C x K c 1) $$ [HC]
  · isplitr; · iexact HR
    iexact HC
  iintro HC
  iapply (run_C x K c 2) $$ [HC]
  · isplitr; · iexact HR
    iexact HC
  iintro HC
  iapply (run_C x K c 3) $$ [HC]
  · isplitr; · iexact HR
    iexact HC
  iintro HC
  iapply (run_C x K c 4) $$ [HC]
  · isplitr; · iexact HR
    iexact HC
  iintro HC
  iapply (run_C x K c 5) $$ [HC]
  · isplitr; · iexact HR
    iexact HC
  iintro HC
  iapply (run_C x K c 6) $$ [HC]
  · isplitr; · iexact HR
    iexact HC
  iintro HC
  iapply (run_C x K c 7) $$ [HC]
  · isplitr; · iexact HR
    iexact HC
  unfold stC
  rw [show (7 : Fin 8).val + 1 = 8 from rfl, done_all]
  iintro ⟨⟨-, Hl⟩, HO⟩
  iapply Hk
  unfold exchPost
  isplitl [Hx Ho]
  · isplitl [Hx] <;> iassumption
  isplitl [Hi0 Hi1 Hfo]
  · isplitl [Hi0 Hi1]
    · isplitl [Hi0] <;> iassumption
    iexact Hfo
  isplitl [Hr Hl]
  · isplitl [Hr] <;> iassumption
  iexact HO

end Cert.Exchange
-- ==== Proof.Whole.lean ====
/-
Whole buffers and their chunks: a buffer held whole is its chunks held one by one, and back.
-/
module

public import proofs.«01_k».proof.Proof.Exchange
public import Idealize.ShloMosaic.Lib.Ring

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

/-! ## Rejoining -/

/-- Contents given on each rectangle of a disjoint family are those of one array. -/
theorem glue {T : Type} {s : Shape} {e : EltTy} (r : T → Rect s) (hd : ∀ t t', t ≠ t' → Disjoint (r t).set (r t').set)
    (f : ∀ t, (r t).shape.Idx → Elt F e) : ∃ X : s.Idx → Elt F e, ∀ t, (fun j => X ((r t).emb j)) = f t := by
  classical
  have hone : ∀ (a b : Σ t, (r t).shape.Idx), (r a.1).emb a.2 = (r b.1).emb b.2 → a = b := by
    rintro ⟨t, j⟩ ⟨t', j'⟩ h
    by_cases ht : t = t'
    · subst ht
      have hj : j = j' := (r t).emb.injective h
      rw [hj]
    · have h1 : (r t).emb j ∈ (r t).set := by rw [← Rect.map_emb_univ]; exact Finset.mem_map_of_mem _ (Finset.mem_univ j)
      have h2 : (r t).emb j ∈ (r t').set := by
        rw [show (r t).emb j = (r t').emb j' from h, ← Rect.map_emb_univ]; exact Finset.mem_map_of_mem _ (Finset.mem_univ j')
      exact absurd h2 (Finset.disjoint_left.mp (hd t t' ht) h1)
  refine ⟨fun i => if h : ∃ tj : Σ t, (r t).shape.Idx, (r tj.1).emb tj.2 = i then f h.choose.1 h.choose.2 else Classical.arbitrary _, fun t => funext fun j => ?_⟩
  have h : ∃ tj : Σ t, (r t).shape.Idx, (r tj.1).emb tj.2 = (r t).emb j := ⟨⟨t, j⟩, rfl⟩
  have he : h.choose = ⟨t, j⟩ := hone _ _ h.choose_spec
  show (if h : ∃ tj : Σ t, (r t).shape.Idx, (r tj.1).emb tj.2 = (r t).emb j then f h.choose.1 h.choose.2 else Classical.arbitrary _) = f t j
  rw [dif_pos h, he]

variable (c : Dev nD)

theorem some_hold {sp : Space} {s : Shape} {e : EltTy} (m : Memref sig .tc sp s e) (X : s.Idx → Elt F e) : hold c m X ⊢ holdAny (F := F) c m := by
  iintro H; iexists X; iexact H
theorem bigSep_two (Φ : Fin 2 → sProp 𝕄) : bigSep Finset.univ Φ = iprop(Φ 0 ∗ Φ 1) := bigSep_univ_eq_bigSepL [0, 1] (by decide) (by decide) Φ

section Any
variable {T : Type} [Fintype T] [DecidableEq T] {sp : Space} {s : Shape} {e : EltTy} (m : Memref sig .tc sp s e) (r : T → Rect s)
  (hr : ∀ t a, (r t).stride a = 1) (hd : ∀ t t', t ≠ t' → Disjoint (r t).set (r t').set)
  (hcov : (Finset.univ : Finset T).biUnion (fun t => (r t).set) = Finset.univ)

include hd hcov

/-- A memref held at anything is its rectangles held at anything; -/
theorem split_any : holdAny (F := F) c m ⊢ bigSep Finset.univ fun t => holdAny (F := F) c (m.slice (r t) (hr t)) := by
  iintro ⟨%X, H⟩
  iapply ((owns_rects (Val := Elt F) (c : Thread nD τ) m fullShare r hr hd hcov X).trans (bigSep_mono fun t _ => some_hold c _ _))
  iexact H
/-- and back. -/
theorem join_any : (bigSep Finset.univ fun t => holdAny (F := F) c (m.slice (r t) (hr t))) ⊢ holdAny (F := F) c m := by
  refine (BI.bigSep_exists_pi Finset.univ (fun t (X : (r t).shape.Idx → Elt F e) => owns (Ix := Unit) (Name := ℕ) (U := UU) (Lvl := ℕ) (c : Thread nD τ) (m.slice (r t) (hr t)) fullShare X)).trans ?_
  iintro ⟨%f, H⟩
  obtain ⟨X, hX⟩ := glue (F := F) (e := e) r hd f
  iexists X
  iapply (owns_of_rects (Val := Elt F) (c : Thread nD τ) m fullShare r hr hd hcov X)
  simp only [hX]
  iexact H
end Any

/-! ## The three families of rectangles -/

theorem disjC (k k' : Fin 8) (h : k ≠ k') : Disjoint (rC k).set (rC k').set :=
  Ring.lead_disjoint (s := S4096x2048) 0 512 (fun k : Fin 8 => ![512 * k.val, 0]) S512x2048.size inbC (fun _ => rfl) rfl k k' h
theorem coverC : (Finset.univ : Finset (Fin 8)).biUnion (fun k => (rC k).set) = Finset.univ :=
  Ring.lead_cover (s := S4096x2048) 0 512 (fun k : Fin 8 => ![512 * k.val, 0]) S512x2048.size inbC (fun _ => rfl)
    (fun b a h => by fin_cases a; exacts [absurd rfl h, rfl]) rfl (fun a h => by fin_cases a; exacts [absurd rfl h, rfl]) rfl
theorem disjS (k k' : Fin 8) (h : k ≠ k') : Disjoint (rS k).set (rS k').set :=
  Ring.lead_disjoint (s := S8x2048) 0 1 (fun k : Fin 8 => ![k.val, 0]) S1x2048.size inbS (fun b => (Nat.one_mul _).symm) rfl k k' h
theorem coverS : (Finset.univ : Finset (Fin 8)).biUnion (fun k => (rS k).set) = Finset.univ :=
  Ring.lead_cover (s := S8x2048) 0 1 (fun k : Fin 8 => ![k.val, 0]) S1x2048.size inbS (fun b => (Nat.one_mul _).symm)
    (fun b a h => by fin_cases a; exacts [absurd rfl h, rfl]) rfl (fun a h => by fin_cases a; exacts [absurd rfl h, rfl]) rfl
theorem disjX (b b' : Fin 2) (h : b ≠ b') : Disjoint (rX b).set (rX b').set :=
  Ring.lead_disjoint (s := S2x512x2048) 0 1 (fun b : Fin 2 => ![b.val, 0, 0]) S1x512x2048.size inbX (fun b => (Nat.one_mul _).symm) rfl b b' h
theorem coverX : (Finset.univ : Finset (Fin 2)).biUnion (fun b => (rX b).set) = Finset.univ :=
  Ring.lead_cover (s := S2x512x2048) 0 1 (fun b : Fin 2 => ![b.val, 0, 0]) S1x512x2048.size inbX (fun b => (Nat.one_mul _).symm)
    (fun b a h => by fin_cases a; exacts [absurd rfl h, rfl, rfl]) rfl (fun a h => by fin_cases a; exacts [absurd rfl h, rfl, rfl]) rfl

/-! ## The buffers -/

variable (x : Dev nD → FVec F S4096x2048 .f32)

/-- `x` is its chunks; -/
theorem split_x : ((c : Thread nD τ).loc main_arg0 ↦{fullShare} x c) ⊢ bigSep Finset.univ (xin x c) := by
  rw [← owns_whole]
  exact owns_rects (Val := Elt F) (c : Thread nD τ) xM fullShare rC (fun _ _ => rfl) disjC coverC (x c)
theorem join_x : bigSep Finset.univ (xin x c) ⊢ ((c : Thread nD τ).loc main_arg0 ↦{fullShare} x c) := by
  rw [← owns_whole]
  exact owns_of_rects (Val := Elt F) (c : Thread nD τ) xM fullShare rC (fun _ _ => rfl) disjC coverC (x c)

/-- the result is its chunks, before and after; -/
theorem split_o (f : FVec F S4096x2048 .f32) : ((c : Thread nD τ).loc main_v1 ↦{fullShare} f) ⊢ bigSep Finset.univ (oin (F := F) c) := by
  rw [← owns_whole]
  exact (owns_rects (Val := Elt F) (c : Thread nD τ) oM fullShare rC (fun _ _ => rfl) disjC coverC f).trans
    (bigSep_mono fun k _ => some_hold c (oC k) _)
theorem join_o : bigSep Finset.univ (oout x c) ⊢ ((c : Thread nD τ).loc main_v1 ↦{fullShare} throughAll (x (peer c))) := by
  rw [← owns_whole]
  refine BIBase.Entails.trans (Entails.of_eq ?_) (owns_of_rects (Val := Elt F) (c : Thread nD τ) oM fullShare rC (fun _ _ => rfl) disjC coverC (throughAll (x (peer c))))
  exact bigSep_congr fun k _ => by unfold oout; rw [throughAll_chunk]

/-- A buffer held whole at some contents. -/
abbrev anyBuf (b : Ref sig .tc) : sProp 𝕄 := iprop(∃ f : Buf (Elt F) ((c : Thread nD τ).loc b), ((c : Thread nD τ).loc b) ↦{fullShare} f)

theorem anyBuf_whole (b : Ref sig .tc) : anyBuf (F := F) c b = holdAny (F := F) c (Memref.whole b) := by
  unfold anyBuf holdAny; simp only [owns_whole]

/-- A double buffer is its two slots. -/
theorem split_in : anyBuf (F := F) c cc0_scratch0 ⊢ iprop(holdAny (F := F) c (xiC 0) ∗ holdAny (F := F) c (xiC 1)) := by
  rw [anyBuf_whole]
  refine (split_any c xiM rX (fun _ _ => rfl) disjX coverX).trans ?_
  rw [bigSep_two]
  iintro ⟨⟨%X, H0⟩, ⟨%Y, H1⟩⟩
  isplitl [H0]
  · iexists _; iapply (inSlot c 0 X) $$ H0
  · iexists _; iapply (inSlot c 1 Y) $$ H1
theorem join_in : iprop(holdAny (F := F) c (xiC 0) ∗ holdAny (F := F) c (xiC 1)) ⊢ anyBuf (F := F) c cc0_scratch0 := by
  rw [anyBuf_whole]
  refine BIBase.Entails.trans ?_ (join_any c xiM rX (fun _ _ => rfl) disjX coverX)
  rw [bigSep_two]
  iintro ⟨⟨%X, H0⟩, ⟨%Y, H1⟩⟩
  isplitl [H0]
  · iexists _; iapply (slotIn c 0 X) $$ H0
  · iexists _; iapply (slotIn c 1 Y) $$ H1
theorem split_out : anyBuf (F := F) c cc0_scratch1 ⊢ iprop(holdAny (F := F) c (xoC 0) ∗ holdAny (F := F) c (xoC 1)) := by
  rw [anyBuf_whole]
  refine (split_any c xoM rX (fun _ _ => rfl) disjX coverX).trans ?_
  rw [bigSep_two]
  iintro ⟨⟨%X, H0⟩, ⟨%Y, H1⟩⟩
  isplitl [H0]
  · iexists _; iapply (outSlot c 0 X) $$ H0
  · iexists _; iapply (outSlot c 1 Y) $$ H1
theorem join_out : iprop(holdAny (F := F) c (xoC 0) ∗ holdAny (F := F) c (xoC 1)) ⊢ anyBuf (F := F) c cc0_scratch1 := by
  rw [anyBuf_whole]
  refine BIBase.Entails.trans ?_ (join_any c xoM rX (fun _ _ => rfl) disjX coverX)
  rw [bigSep_two]
  iintro ⟨⟨%X, H0⟩, ⟨%Y, H1⟩⟩
  isplitl [H0]
  · iexists _; iapply (slotOut c 0 X) $$ H0
  · iexists _; iapply (slotOut c 1 Y) $$ H1

/-- The own codes and scales, chunk by chunk; the received ones. -/
theorem split_own : iprop(anyBuf (F := F) c cc0_scratch2 ∗ anyBuf (F := F) c cc0_scratch4)
    ⊢ bigSep Finset.univ fun k : Fin 8 => iprop(holdAny (F := F) c (qsC k) ∗ holdAny (F := F) c (ssC k)) := by
  rw [anyBuf_whole, anyBuf_whole, bigSep_sep']
  exact BI.sep_mono (split_any c qsM rC (fun _ _ => rfl) disjC coverC) (split_any c ssM rS (fun _ _ => rfl) disjS coverS)
theorem join_own : (bigSep Finset.univ fun k : Fin 8 => iprop(holdAny (F := F) c (qsC k) ∗ holdAny (F := F) c (ssC k)))
    ⊢ iprop(anyBuf (F := F) c cc0_scratch2 ∗ anyBuf (F := F) c cc0_scratch4) := by
  rw [anyBuf_whole, anyBuf_whole, bigSep_sep']
  exact BI.sep_mono (join_any c qsM rC (fun _ _ => rfl) disjC coverC) (join_any c ssM rS (fun _ _ => rfl) disjS coverS)
theorem split_landing : iprop(anyBuf (F := F) c cc0_scratch3 ∗ anyBuf (F := F) c cc0_scratch5) ⊢ landing (F := F) c := by
  unfold landing
  rw [anyBuf_whole, anyBuf_whole, bigSep_sep']
  exact BI.sep_mono (split_any c qrM rC (fun _ _ => rfl) disjC coverC) (split_any c srM rS (fun _ _ => rfl) disjS coverS)
theorem join_landing : landing (F := F) c ⊢ iprop(anyBuf (F := F) c cc0_scratch3 ∗ anyBuf (F := F) c cc0_scratch5) := by
  unfold landing
  rw [anyBuf_whole, anyBuf_whole, bigSep_sep']
  exact BI.sep_mono (join_any c qrM rC (fun _ _ => rfl) disjC coverC) (join_any c srM rS (fun _ _ => rfl) disjS coverS)

end Cert.Exchange
-- ==== Proof.Body.lean ====
/-
The body on one device, whichever it is: it reads the routing word, meets its peer at the barrier and exchanges.
-/
module

public import proofs.«01_k».proof.Proof.Whole

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

/-! ## The routing word -/

/-- The word a device reads under the precondition: the other end of the `x` axis. -/
def wordOf (c : Dev nD) : BitVec 32 := BitVec.ofNat 32 (1 - c.val / 4)

theorem chk_word (c : Dev nD) : k0_chk1 c (wordOf c) := by revert c; decide +kernel
theorem cond_word (c : Dev nD) : k0_cond1 c (wordOf c) = 1#1 := by revert c; decide +kernel
theorem dev1_word (c : Dev nD) : (⟨k0_dev1 c, k0_dev1_lt c⟩ : Dev nD) = peer c := by revert c; decide +kernel
theorem dst_word (c : Dev nD) (hw : k0_chk1 c (wordOf c)) (h1 : k0_cond1 c (wordOf c) = 1#1) :
    (⟨k0_dev2 c (wordOf c), k0_dev2_lt c (wordOf c) hw h1⟩ : Dev nD) = peer c := Fin.ext (by
  show k0_dev2 c (wordOf c) = (peer c).val
  revert c; decide +kernel)
theorem stay_word (c : Dev nD) : ¬ (Scalar.cmpi .ne (Scalar.extui (Scalar.cmpi .eq (wordOf c) (Scalar.remsi (Scalar.divsi (Dev.word c) 4#32) 2#32)) : BitVec 32) 0#32 = 1#1) := by
  revert c; decide +kernel

section
variable {c : Dev nD} {v : BitVec 32} (hv : v = wordOf c)
include hv
theorem chk_of : k0_chk1 c v := hv ▸ chk_word c
theorem cond_of : k0_cond1 c v = 1#1 := hv ▸ cond_word c
theorem dst_of (hw : k0_chk1 c v) (h1 : k0_cond1 c v = 1#1) : (⟨k0_dev2 c v, k0_dev2_lt c v hw h1⟩ : Dev nD) = peer c := by
  subst hv; exact dst_word c hw h1
theorem stay_of : ¬ (Scalar.cmpi .ne (Scalar.extui (Scalar.cmpi .eq v (Scalar.remsi (Scalar.divsi (Dev.word c) 4#32) 2#32)) : BitVec 32) 0#32 = 1#1) := by
  subst hv; exact stay_word c
end

/-- The word the body reads of a staged table. -/
abbrev wordAt (c : Dev nD) (f : Buf (Elt F) ((c : Thread nD τ).loc cc0_stg0_0)) : BitVec 32 :=
  ((Memref.whole cc0_stg0_0).access (Rect.unit (s := S2) (k0_off1 c) S1.size (k0_off1_inb c)) : View sig .tc _ _ _).read (Elt F) f
    (Shape.Idx.first (s := S1) (numel1_S1.symm ▸ Nat.one_pos))

variable (x : Dev nD → FVec F S4096x2048 .f32) (K : Dev nD × CI → ℕ) (c : Dev nD)

/-! ## The barrier -/

/-- The signal: the peer may write into the device's receive buffers from now on. -/
theorem run_signal (n : Dev nD) (hn : n = peer c) {α : Type} {Q : α → sProp (MT nD τ sig Unit (Elt F) ℕ UU ℕ)} {k : PUnit → Prog (TpuEff nD τ sig (Elt F) Λ₀ .tc) α} :
    iprop(records x K ∗ ow c (O₀ c) ∗ dutyTok ER (cell (peer c) none) 0 () ∗ landing (F := F) c)
      ⊢ iprop((ow c (oweFrom c 0) -∗ run c (k ⟨⟩) Q) -∗ run c (.op (.semSignal (Dev.tc n) barS (1#32 : BitVec 32).toInt) k) Q) := by
  subst hn
  rw [show (1#32 : BitVec 32).toInt = ((1#32 : BitVec 32).toNat : Int) from rfl]
  unfold ow
  iintro ⟨#HR, ⟨%W, HO⟩, Ht, Hl⟩ Hk
  iapply (Rounds.wp_signal 𝒱₀ ER (Rd x) (c : Thread nD τ) none (dst := (peer c : Thread nD τ)) (sem := barS) (κ := K (peer c, none))
      (mem_duties x (peer c) none) (show (Rd x).amount (cell (peer c) none) 0 () = (1#32 : BitVec 32).toNat from amount_cell x (peer c) none) ()
      (O₀ := O₀ c) (oweFrom c 0) rfl) $$ [HO Ht Hl]
  · isplitr; · iapply (inv_at x K (peer c) none); iexact HR
    isplitl [HO]; · iexact HO
    isplitl [Ht]; · iexact Ht
    isplitl [Hl]
    · rw [show (Rd x).payload ((peer c : Thread nD τ), .reg barS) 0 () = pay x (peer c) none from payload_cell x (peer c) none]
      unfold pay; rw [peer_peer]; iexact Hl
    iapply (reached_at x K (peer c) none); iexact HR
  iintro HO
  iapply Hk
  iexists _; iexact HO

/-- The wait: the device may write into the peer's receive buffers from now on. -/
theorem run_meet {α : Type} {Q : α → sProp (MT nD τ sig Unit (Elt F) ℕ UU ℕ)} {k : PUnit → Prog (TpuEff nD τ sig (Elt F) Λ₀ .tc) α} :
    iprop(records x K ∗ levAts L lv ∗ cred (tallyAt (cell c none) () 1) ∗ ow c (oweFrom c 0) ∗ atPos ER (cell c none) 0 ∅ 0)
      ⊢ iprop((iprop(ow c (oweFrom c 0) ∗ semVal (cell c none) 0 ∗ landing (F := F) (peer c)) -∗ run c (k ⟨⟩) Q)
        -∗ run c (.op (.semWait barS (1#32 : BitVec 32).toInt) k) Q) := by
  rw [show (1#32 : BitVec 32).toInt = ((1#32 : BitVec 32).toNat : Int) from rfl]
  iintro ⟨#HR, #Hlev, Hc, HO, Hat⟩ Hk
  iapply (run_wait x K c (i := none) (wpE_semWait_eq 𝒱₀ (c : Thread nD τ) none Set.univ) (oweFrom c 0)) $$ [Hc HO Hat]
  · isplitr; · iexact HR
    isplitl [Hc]; · iexact Hc
    isplitl [HO]; · iexact HO
    isplitr; · iapply (mayWait_from c (csem none) 0 (by rw [kind_csem]; decide)); iexact Hlev
    iexact Hat
  iexact Hk

/-! ## The body -/

/-- What a device starts from, the routing table apart. -/
def bodyIn : sProp 𝕄 :=
  iprop((cred (tallyAt (cell c none) () 1) ∗ atPos ER (cell c none) 0 ∅ 0 ∗ dutyTok ER (cell (peer c) none) 0 ())
    ∗ landing (F := F) c ∗ ow (F := F) c (O₀ c)
    ∗ (bigSep Finset.univ (xin x c) ∗ bigSep Finset.univ (oin (F := F) c))
    ∗ ((freeIn (F := F) c 0 ∗ freeIn (F := F) c 1) ∗ (freeOut (F := F) c 0 ∗ freeOut (F := F) c 1))
    ∗ ((bigSep Finset.univ fun k : Fin 8 => iprop(holdAny (F := F) c (qsC k) ∗ holdAny (F := F) c (ssC k))) ∗ bigSep Finset.univ (toks (F := F) c))
    ∗ (bigSep Finset.univ (rin (F := F) c) ∗ bigSep Finset.univ (posL (F := F) c)))

theorem run_assume {α : Type} {Q : α → sProp (MT nD τ sig Unit (Elt F) ℕ UU ℕ)} {P : Prop} {d : Decidable P} (h : P) {k : PLift P → Prog (TpuEff nD τ sig (Elt F) Λ₀ .tc) α} :
    run c (.op (.assume P d) k) Q = run c (k ⟨h⟩) Q := wp_assume_of _ _ _ _ (d := d) h

/-- The body once the routing word is read. -/
def rest (d : Dev nD) (v : Elt F .i32) : PR (F := F) := do
  have hw : k0_chk1 d v := (← Prog.lift (TpuEff.assume (k0_chk1 d v) (k0_chk1.dec d v))).down
  semSignalWord (⟨k0_dev1 d, k0_dev1_lt d⟩ : Dev nD) (SemArray.scalar (sig.barrier 0 rfl) : Sems sig S_).sem 1#32
  semWaitWord (SemArray.scalar (sig.barrier 0 rfl) : Sems sig S_).sem 1#32
  if h1 : k0_cond1 d v = 1#1 then exchange (dst d v hw h1) else pure ⟨⟩
  if Scalar.cmpi .ne (Scalar.extui (Scalar.cmpi .eq v (Scalar.remsi (Scalar.divsi (Dev.word d) 4#32) 2#32)) : BitVec 32) 0#32 = 1#1 then do
    Prog.lift (.enqueueDma xM (.here oM) (.dma (inS 0)) (Memref.isWhole_whole _).wordExact (Memref.isWhole_whole _).wordExact ⟨Or.inl rfl, trivial⟩)
    Prog.lift (.waitDma2 (inS 0) xM oM (Memref.isWhole_whole _).wordExact (Memref.isWhole_whole _).wordExact)
    pure ⟨⟩
  else pure ⟨⟩
  pure ⟨⟩

theorem body_rest : (body : PR (F := F)) = (do
    let d : Dev nD ← Prog.lift .deviceId
    let v : Elt F .i32 ← smemLoad (Memref.whole cc0_stg0_0 : Memref sig .tc .smem S2 .i32) (Rect.unit (s := S2) (k0_off1 d) S1.size (k0_off1_inb d)) numel1_S1 rfl
    rest d v) := rfl

theorem run_rest (v : Elt F .i32) (hw : k0_chk1 c v) (h1 : k0_cond1 c v = 1#1) (hd : (⟨k0_dev2 c v, k0_dev2_lt c v hw h1⟩ : Dev nD) = peer c)
    (h2 : ¬ (Scalar.cmpi .ne (Scalar.extui (Scalar.cmpi .eq v (Scalar.remsi (Scalar.divsi (Dev.word c) 4#32) 2#32)) : BitVec 32) 0#32 = 1#1)) (Φ : PUnit → sProp (MT nD τ sig Unit (Elt F) ℕ UU ℕ)) :
    iprop(records x K ∗ levAts L lv ∗ bodyIn x c)
      ⊢ iprop((iprop(exchPost x c ∗ semVal (cell c none) 0) -∗ Φ ⟨⟩) -∗ run c (rest c v) Φ) := by
  unfold rest bodyIn
  simp only [semSignalWord, semWaitWord, Prog.lift, Prog.bind_op, Prog.bind_ret, Prog.pure_eq_ret]
  rw [run_assume c hw]
  simp only [dif_pos h1, if_neg h2, dst]
  rw [hd]
  iintro ⟨#HR, #Hlev, ⟨Hc, Hat, Ht⟩, Hl, HO, Hxo, Hfree, ⟨Hown, Htk⟩, Hr⟩ Hk
  iapply (run_signal x K c _ (dev1_word c)) $$ [HO Ht Hl]
  · isplitr; · iexact HR
    isplitl [HO]; · iexact HO
    isplitl [Ht] <;> iassumption
  iintro HO
  iapply (run_meet x K c) $$ [Hc HO Hat]
  · isplitr; · iexact HR
    isplitr; · iexact Hlev
    isplitl [Hc]; · iexact Hc
    isplitl [HO] <;> iassumption
  iintro ⟨HO, Hz, Hl⟩
  simp only [wp_bind]
  iapply (run_exchange x K c) $$ [HO Hl Hxo Hfree Hown Htk Hr]
  · isplitr; · iexact HR
    isplitr; · iexact Hlev
    unfold exchPre
    isplitl [Hxo]; · iexact Hxo
    isplitl [Hfree]; · iexact Hfree
    isplitl [Hown Hl Htk]
    · isplitl [Hown Hl]
      · unfold loc landing
        rw [bigSep_sep' Finset.univ (fun k : Fin 8 => iprop(holdAny (F := F) c (qsC k) ∗ holdAny (F := F) c (ssC k)))]
        isplitl [Hown] <;> iassumption
      iexact Htk
    isplitl [Hr] <;> iassumption
  iintro Hpost
  iapply (run_ret c PUnit.unit Φ)
  iapply Hk
  isplitl [Hpost] <;> iassumption

theorem run_body (f : Buf (Elt F) ((c : Thread nD τ).loc cc0_stg0_0)) (hf : wordAt c f = wordOf c) (Φ : PUnit → sProp (MT nD τ sig Unit (Elt F) ℕ UU ℕ)) :
    iprop(records x K ∗ levAts L lv ∗ bodyIn x c ∗ (((c : Thread nD τ).loc cc0_stg0_0) ↦{fullShare} f))
      ⊢ iprop((iprop(exchPost x c ∗ semVal (cell c none) 0 ∗ (((c : Thread nD τ).loc cc0_stg0_0) ↦{fullShare} f)) -∗ Φ ⟨⟩) -∗ run c body Φ) := by
  rw [body_rest]
  simp only [smemLoad, smemLoadElt, Prog.lift, Prog.bind_op, Prog.bind_ret, wp_deviceId]
  iintro ⟨#HR, #Hlev, Hb, Htab⟩ Hk
  iapply (wp_load_rect 𝒱₀ (c : Thread nD τ) none Set.univ (m := (Memref.whole cc0_stg0_0 : Memref sig .tc .smem S2 .i32))
    (r := Rect.unit (s := S2) (k0_off1 c) S1.size (k0_off1_inb c)) (Finset.subset_univ _)) $$ Htab
  iintro Htab
  iapply (run_rest x K c (wordAt c f) (chk_of hf) (cond_of hf) (dst_of hf (chk_of hf) (cond_of hf)) (stay_of hf) Φ) $$ [Hb]
  · isplitr; · iexact HR
    isplitr; · iexact Hlev
    iexact Hb
  iintro ⟨Hpost, Hz⟩
  iapply Hk
  isplitl [Hpost]; · iexact Hpost
  isplitl [Hz] <;> iassumption

end Cert.Exchange
-- ==== Proof.Launch.lean ====
/-
The launch: the ghost state dealt to the eight devices, the body's obligation on one of them, and the run of the whole
mesh. The statement is `run_main`: over any float values, when `pi` is the swap, each device's result is what its
peer's half of `x` quantises and dequantises to, the arguments are unchanged and every semaphore counter is zero.
-/
module

public import proofs.«01_k».proof.Proof.Body
public import Idealize.ShloMosaic.Lib.Pipeline.CollectiveSegs
public import Idealize.ShloMosaic.Lib.Quiescent

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Products over the cells of a device -/

theorem bigSep_opt {I : Type} [Fintype I] [DecidableEq I] (Φ : Option I → sProp 𝕄) :
    bigSep Finset.univ Φ = iprop(Φ none ∗ bigSep Finset.univ fun i => Φ (some i)) := by
  have h : (Finset.univ : Finset (Option I)) = insert none (Finset.univ.map ⟨some, Option.some_injective I⟩) := by
    ext i; cases i <;> simp
  rw [h, bigSep_insert (by simp), bigSep_map]
  rfl

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_kinds (Φ : Fin 4 × Fin 8 → sProp 𝕄) : bigSep Finset.univ Φ
    = iprop((bigSep Finset.univ fun k => Φ (0, k)) ∗ (bigSep Finset.univ fun k => Φ (1, k))
        ∗ (bigSep Finset.univ fun k => Φ (2, k)) ∗ (bigSep Finset.univ fun k => Φ (3, k))) := by
  rw [bigSep_univ_prod, bigSep_four]

theorem bigSep_cells (Φ : CI → sProp 𝕄) : bigSep Finset.univ Φ
    = iprop(Φ none ∗ (bigSep Finset.univ fun k => Φ (some (0, k))) ∗ (bigSep Finset.univ fun k => Φ (some (1, k)))
        ∗ (bigSep Finset.univ fun k => Φ (some (2, k))) ∗ (bigSep Finset.univ fun k => Φ (some (3, k)))) := by
  rw [bigSep_opt, bigSep_kinds]

/-! ## The kernel's own semaphores -/

/-- Its semaphores besides the barrier: two for each double buffer, and the cells of the exchange. -/
abbrev OI : Type := Option (Option (Option (Option (Fin 4 × Fin 8))))

def osem : OI → SemLoc sig
  | none => .dma (inS 0)
  | some none => .dma (inS 1)
  | some (some none) => .dma (outS 0)
  | some (some (some none)) => .dma (outS 1)
  | some (some (some (some (a, k)))) => .dma (xS a k)

theorem ownSemFacts : Pipeline.OwnSemFacts cfg0.spec osem := by decide +kernel

/-- The four counters of the double buffers. -/
def slots (c : Dev nD) : sProp 𝕄 :=
  iprop(semVal ((c : Thread nD τ), .dma (inS 0)) 0 ∗ semVal ((c : Thread nD τ), .dma (inS 1)) 0
    ∗ semVal ((c : Thread nD τ), .dma (outS 0)) 0 ∗ semVal ((c : Thread nD τ), .dma (outS 1)) 0)

theorem ownSems0_eq (c : Dev nD) : (Pipeline.ownSems0 (Ix := Unit) (Name := ℕ) (U := UU) (Lvl := ℕ) (Val := Elt F) (τ := τ) osem c : sProp 𝕄)
    = iprop(semVal ((c : Thread nD τ), .dma (inS 0)) 0 ∗ semVal ((c : Thread nD τ), .dma (inS 1)) 0
        ∗ semVal ((c : Thread nD τ), .dma (outS 0)) 0 ∗ semVal ((c : Thread nD τ), .dma (outS 1)) 0
        ∗ bigSep Finset.univ fun ak : Fin 4 × Fin 8 => semVal (cell c (some ak)) 0) := by
  unfold Pipeline.ownSems0
  rw [bigSep_opt, bigSep_opt, bigSep_opt, bigSep_opt]
  rfl

/-- The barrier is the one semaphore that outlives the call. -/
theorem unscopedSems0_eq (c : Dev nD) : (unscopedSems0 c : sProp 𝕄) = semVal (cell c none) 0 := by
  unfold unscopedSems0; rw [bigSep_eq_bigSepL_of_eq [SemLoc.reg barS] (by decide) (by decide)]; rfl

theorem sems0_split (c : Dev nD) :
    iprop(Pipeline.ownSems0 (Ix := Unit) (Name := ℕ) (U := UU) (Lvl := ℕ) (Val := Elt F) (τ := τ) osem c ∗ unscopedSems0 c)
      ⊢ iprop(slots (F := F) c ∗ bigSep Finset.univ fun i : CI => semVal (cell c i) 0) := by
  rw [ownSems0_eq, unscopedSems0_eq, bigSep_opt]
  unfold slots
  iintro ⟨⟨H1, H2, H3, H4, Hx⟩, Hb⟩
  isplitl [H1 H2 H3 H4]
  · isplitl [H1]; · iexact H1
    isplitl [H2]; · iexact H2
    isplitl [H3] <;> iassumption
  isplitl [Hb] <;> iassumption

/-! ## The ghost state -/

section Ghost

variable (x : Dev nD → FVec F S4096x2048 .f32)

def theCells : Finset (GSem nD τ sig) := Finset.univ.map ⟨fun ci : Dev nD × CI => cell ci.1 ci.2, cell_injective⟩

theorem tok_injective : Function.Injective (fun ci : Dev nD × CI => ((cell ci.1 ci.2, 0, ()) : GSem nD τ sig × ℕ × Unit)) :=
  fun a b h => cell_injective (congrArg Prod.fst h)
def theToks : Finset (GSem nD τ sig × ℕ × Unit) := Finset.univ.map ⟨_, tok_injective⟩

/-- The launch's element: the pipeline's, the exchange's, and nothing for the local copies. -/
def u₀ : UU := (initOf (Pipeline.cells cfgs cellOf_inj) (Pipeline.launchToks cfgs cellOf_inj), (initOf theCells theToks, 1))

/-- The tokens of a device's own cells; -/
def home (c : Dev nD) : sProp 𝕄 := bigSep Finset.univ fun i : CI => dutyTok ER (cell c i) 0 ()
/-- the tokens of the duties that the device pays. -/
def away (c : Dev nD) : sProp 𝕄 := iprop(dutyTok ER (cell (peer c) none) 0 () ∗ bigSep Finset.univ (toks (F := F) c))

/-- What the launch deals to device `c`; -/
def G (c : Dev nD) : sProp 𝕄 :=
  iprop((bigSep Finset.univ fun i : CI => roundState ER (Rd x) (cell c i) 0)
    ∗ (bigSep Finset.univ fun i : CI => iprop(atPos ER (cell c i) 0 ∅ 0 ∗ reached ER (cell c i) 0)) ∗ home (F := F) c)

/-- its positions, the tokens it pays with and the counters of its double buffers; -/
def linear (c : Dev nD) : sProp 𝕄 :=
  iprop((bigSep Finset.univ fun i : CI => atPos ER (cell c i) 0 ∅ 0) ∗ away (F := F) c ∗ slots (F := F) c)
/-- those, and what every device knows. -/
def G' (c : Dev nD) : sProp 𝕄 := iprop(∃ K, records x K ∗ linear (F := F) c)

theorem fund_cells : BI.own (ER (initOf theCells theToks)) ⊢ (|==> bigSep Finset.univ (G x) : sProp 𝕄) := by
  have hX (Φ : GSem nD τ sig → sProp 𝕄) : bigSep theCells Φ = bigSep Finset.univ fun c : Dev nD => bigSep Finset.univ fun i : CI => Φ (cell c i) := by
    unfold theCells; rw [bigSep_map, bigSep_univ_prod]; rfl
  have hT : bigSep theToks (fun y => (dutyTok ER y.1 y.2.1 y.2.2 : sProp 𝕄)) = bigSep Finset.univ fun c : Dev nD => home (F := F) c := by
    unfold theToks home; rw [bigSep_map, bigSep_univ_prod]; rfl
  iintro HX
  imod (Rounds.fund ER (Rd x) theCells theToks) $$ HX with ⟨Hst, Hr, Hat, Htok⟩
  imodintro
  ihave Hst' := (Entails.of_eq (hX fun g => roundState ER (Rd x) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G x c)
      ⊢ |={Set.univ}=> iprop((bigSep Finset.univ fun i : CI => iprop(∃ κ : ℕ, cellInv ER (Rd x) κ (cell c i)))
          ∗ (bigSep Finset.univ fun i : CI => iprop(atPos ER (cell c i) 0 ∅ 0 ∗ reached ER (cell c i) 0)) ∗ home (F := F) c ∗ slots (F := F) c) := by
  unfold G
  iintro ⟨Hos, Hus, Hst, Hat, Htok⟩
  ihave Hv := (sems0_split (F := F) c) $$ [Hos Hus]
  · isplitl [Hos] <;> iassumption
  icases Hv with ⟨Hslots, Hv⟩
  imod (show iprop((bigSep Finset.univ fun i : CI => semVal (cell c i) 0) ∗ bigSep Finset.univ fun i : CI => roundState ER (Rd x) (cell c i) 0)
      ⊢ (|={Set.univ}=> bigSep Finset.univ fun i : CI => iprop(∃ κ : ℕ, cellInv ER (Rd x) κ (cell c i)) : sProp 𝕄) from by
        rw [← bigSep_sep']
        exact (bigSep_mono fun i _ => (Rounds.body_intro ER (Rd x) (cell c i)).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

theorem bigSep_sep4 {I : Type} [DecidableEq I] (s : Finset I) (A B C D : I → sProp 𝕄) :
    (bigSep s fun i => iprop((A i ∗ B i) ∗ (C i ∗ D i))) = iprop((bigSep s A ∗ bigSep s B) ∗ (bigSep s C ∗ bigSep s D)) := by
  rw [bigSep_sep', bigSep_sep', bigSep_sep']

theorem away_eq (c : Dev nD) : away (F := F) c
    = iprop(dutyTok ER (cell (peer c) none) 0 ()
        ∗ ((bigSep Finset.univ fun k => dutyTok ER (cell c (some (0, k))) 0 ()) ∗ (bigSep Finset.univ fun k => dutyTok ER (cell (peer c) (some (1, k))) 0 ()))
        ∗ ((bigSep Finset.univ fun k => dutyTok ER (cell c (some (2, k))) 0 ()) ∗ (bigSep Finset.univ fun k => dutyTok ER (cell (peer c) (some (3, k))) 0 ()))) := by
  unfold away toks
  rw [bigSep_sep4]

/-- Every token goes to the device that pays with it. -/
theorem toks_around : (bigSep Finset.univ fun c : Dev nD => home (F := F) c) ⊢ bigSep Finset.univ fun c : Dev nD => away (F := F) c := by
  rw [bigSep_congr (s := Finset.univ) (fun (c : Dev nD) _ => away_eq (F := F) c)]
  unfold home
  simp only [bigSep_cells]
  rw [bigSep_sep', bigSep_sep', bigSep_sep', bigSep_sep', bigSep_sep', bigSep_sep', bigSep_sep', bigSep_sep',
    bigSep_univ_equiv swapDev (fun c : Dev nD => (dutyTok ER (cell c none) 0 () : sProp 𝕄)),
    bigSep_univ_equiv swapDev (fun c : Dev nD => (bigSep Finset.univ fun k : Fin 8 => dutyTok ER (cell c (some (1, k))) 0 () : sProp 𝕄)),
    bigSep_univ_equiv swapDev (fun c : Dev nD => (bigSep Finset.univ fun k : Fin 8 => dutyTok ER (cell c (some (3, k))) 0 () : sProp 𝕄))]
  iintro ⟨Hb, H0, H1, H2, H3⟩
  isplitl [Hb]; · iexact Hb
  isplitl [H0 H1]
  · isplitl [H0]; · iexact H0
    iexact H1
  isplitl [H2]; · iexact H2
  iexact H3

theorem share_out {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd x) κ (cell c i)))
          ∗ (bigSep Finset.univ fun i : CI => iprop(atPos ER (cell c i) 0 ∅ 0 ∗ reached ER (cell c i) 0)) ∗ home (F := F) c ∗ slots (F := F) c) : sProp 𝕄)
      ⊢ bigSep Finset.univ (G' x) := by
  rw [bigSep_sep', bigSep_sep', bigSep_sep', ← bigSep_univ_prod (fun ci : Dev nD × CI => iprop(∃ κ : ℕ, cellInv ER (Rd x) κ (cell ci.1 ci.2))),
    bigSep_congr (s := Finset.univ) (fun (c : Dev nD) _ => bigSep_sep' Finset.univ (fun i : CI => (atPos ER (cell c i) 0 ∅ 0 : sProp 𝕄)) (fun i => reached ER (cell c i) 0)),
    bigSep_sep', ← bigSep_univ_prod (fun ci : Dev nD × CI => (reached ER (cell ci.1 ci.2) 0 : sProp 𝕄))]
  iintro ⟨HI, ⟨Hat, #HR⟩, Htok, Hsl⟩
  ihave HK := (BI.bigSep_exists_pi Finset.univ (fun (ci : Dev nD × CI) (κ : ℕ) => (cellInv ER (Rd x) κ (cell ci.1 ci.2) : sProp 𝕄))) $$ HI
  icases HK with ⟨%K, #HI⟩
  ihave Htk := (toks_around (F := F)) $$ Htok
  iapply (share_out (R := records x K) (Φ := linear (F := F)) (Ψ := G' x) fun c _ => by unfold G'; iintro H; iexists K; iexact H)
  isplitr
  · unfold records; isplitl; · iexact HI
    iexact HR
  · unfold linear
    rw [bigSep_sep', bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G x c) : sProp 𝕄)
    ⊢ |={Set.univ}=> bigSep Finset.univ (G' x) :=
  ((bigSep_mono fun c _ => core_alloc x c).trans (bigSep_fupd _ _)).trans (BI.fupd_mono (regroup x))

end Ghost

/-! ## The launch credit -/

/-- What the units that a device's peer owes its cell `i` come to, a chunk of scales counting `a`, one of codes `b`. -/
def due (a b : ℕ) (i : CI) : ℕ :=
  (∑ j ∈ Finset.univ.filter (fun j : Fin 8 => 0 ≤ j.val), ((if i = some (3, j) then a else 0) + (if i = some (1, j) then b else 0))) + (if i = none then 1 else 0)

theorem due_bar (a b : ℕ) : due a b none = 1 := by simp [due]
theorem due_codes (a b : ℕ) (k : Fin 8) : due a b (some (1, k)) = b := by simp [due]
theorem due_scales (a b : ℕ) (k : Fin 8) : due a b (some (3, k)) = a := by simp [due]

theorem cell_eq_iff {c d : Dev nD} {i j : CI} : cell c i = cell (peer d) j ↔ d = peer c ∧ i = j :=
  ⟨fun h => by
    obtain ⟨h1, h2⟩ := Prod.mk.inj (cell_injective (a₁ := (c, i)) (a₂ := (peer d, j)) h)
    exact ⟨by rw [h1, peer_peer], h2⟩, fun ⟨h1, h2⟩ => by subst h1; subst h2; rw [peer_peer]⟩

theorem tally_cell (c d : Dev nD) (i j : CI) (n : ℕ) :
    (tallyAt (cell (peer d) j) () n : CellTallies nD τ sig Unit) (cell c i) () = if d = peer c then (if i = j then n else 0) else 0 := by
  rw [tallyAt_apply]
  by_cases h : d = peer c <;> by_cases h' : i = j
  · rw [if_pos ⟨cell_eq_iff.mpr ⟨h, h'⟩, rfl⟩, if_pos h, if_pos h']
  · rw [if_neg (fun e => h' (cell_eq_iff.mp e.1).2), if_pos h, if_neg h']
  · rw [if_neg (fun e => h (cell_eq_iff.mp e.1).1), if_neg h]
  · rw [if_neg (fun e => h (cell_eq_iff.mp e.1).1), if_neg h]

theorem owed_cell (c d : Dev nD) (i : CI) : O₀ d (cell c i) () = if d = peer c then due NS NQ i else 0 := by
  unfold O₀ oweFrom due
  rw [Pi.add_apply, Finsupp.add_apply, Finset.sum_apply, Finsupp.finsetSum_apply, tally_cell]
  by_cases h : d = peer c
  · rw [if_pos h, if_pos h]
    refine congrArg (· + _) (Finset.sum_congr rfl fun j _ => ?_)
    unfold oweS oweQ
    rw [Pi.add_apply, Finsupp.add_apply, tally_cell, tally_cell, if_pos h, if_pos h]
  · rw [if_neg h, if_neg h, Nat.add_zero]
    refine Finset.sum_eq_zero fun j _ => ?_
    unfold oweS oweQ
    rw [Pi.add_apply, Finsupp.add_apply, tally_cell, tally_cell, if_neg h, if_neg h, Nat.add_zero]

theorem launch_cell (c : Dev nD) (i : CI) :
    tallyOn (cell c i) (launchCredit (Pipeline.owing O₀) 0 (cell c i)) = (tallyAt (cell c i) () (due NS NQ i) : CellTallies nD τ sig Unit) := by
  unfold tallyAt; refine congrArg _ (Finsupp.ext fun u => ?_); cases u
  rw [Pipeline.launchCredit_owing, Finsupp.single_eq_same, Finset.sum_congr rfl fun d _ => owed_cell c d i,
    Finset.sum_ite_eq' Finset.univ (peer c) fun _ => due NS NQ i, if_pos (Finset.mem_univ _)]

/-- The tickets a device starts with: for the barrier, and for the peer's codes and scales. -/
theorem creds (c : Dev nD) : (Pipeline.launchCred O₀ c : sProp 𝕄)
    ⊢ iprop(cred (tallyAt (cell c none) () 1)
        ∗ (bigSep Finset.univ fun k : Fin 8 => cred (tallyAt (cell c (some (1, k))) () (amt (some (1, k)))))
        ∗ (bigSep Finset.univ fun k : Fin 8 => cred (tallyAt (cell c (some (3, k))) () (amt (some (3, k)))))) := by
  unfold Pipeline.launchCred
  refine BIBase.Entails.trans (BI.bigSep_subset (s := Finset.univ) (t := Finset.univ.map ⟨csem, csem_injective⟩) (Finset.subset_univ _)) ?_
  refine BIBase.Entails.trans (Entails.of_eq (show _ = (bigSep Finset.univ fun i : CI => cred (tallyAt (cell c i) () (due NS NQ i)) : sProp 𝕄) from
    (bigSep_map _).trans (bigSep_congr fun i _ => congrArg cred (launch_cell c i)))) ?_
  rw [bigSep_cells]
  simp only [due_bar, due_codes, due_scales]
  iintro ⟨Hb, -, H1, -, H3⟩
  isplitl [Hb]; · iexact Hb
  isplitl [H1]; · iexact H1
  iexact H3

/-! ## The pipeline's proof data -/

variable (m : (ℓ : Loc nD τ sig) → Buf (Elt F) ℓ) (ρ : Dev nD → PrngReg)

/-- A device's half of `x`, its copy of `pi` and that copy as staged. -/
def xOf (c : Dev nD) : FVec F S4096x2048 .f32 := m ((c : Thread nD τ).loc main_arg0)
def piOf (c : Dev nD) : IVec S2 32 := m ((c : Thread nD τ).loc main_arg1)
def tstg (c : Dev nD) : Buf (Elt F) ((c : Thread nD τ).loc cc0_stg0_0) := (win0_0.blk (0 : Fin 1)).view.read (Elt F) (m ((c : Thread nD τ).loc main_arg1))

/-- `pi` is the swap on every device. -/
def PreOK : Prop := ∀ (c : Dev nD) (i : S2.Idx), piOf m c i = BitVec.ofNat 32 (1 - (i 0).val)

theorem word_tstg (h : PreOK m) (c : Dev nD) : wordAt c (tstg m c) = wordOf c := by
  show piOf m c _ = _
  rw [h c]
  refine congrArg (fun n => BitVec.ofNat 32 (1 - n)) ?_
  revert c; decide +kernel

/-- What device `c` starts from. -/
def start (c : Dev nD) : sProp 𝕄 :=
  iprop(G' (xOf m) c
    ∗ (cred (tallyAt (cell c none) () 1)
        ∗ (bigSep Finset.univ fun k : Fin 8 => cred (tallyAt (cell c (some (1, k))) () (amt (some (1, k)))))
        ∗ (bigSep Finset.univ fun k : Fin 8 => cred (tallyAt (cell c (some (3, k))) () (amt (some (3, k))))))
    ∗ levAts L lv
    ∗ ((c : Thread nD τ).loc main_arg0 ↦{fullShare} xOf m c) ∗ (∃ f : FVec F S4096x2048 .f32, (c : Thread nD τ).loc main_v1 ↦{fullShare} f))

/-- The six scratch buffers. -/
def scratch (c : Dev nD) : sProp 𝕄 :=
  iprop(anyBuf (F := F) c cc0_scratch0 ∗ anyBuf (F := F) c cc0_scratch1 ∗ anyBuf (F := F) c cc0_scratch2
    ∗ anyBuf (F := F) c cc0_scratch3 ∗ anyBuf (F := F) c cc0_scratch4 ∗ anyBuf (F := F) c cc0_scratch5)

/-- What it ends with. -/
def finish (c : Dev nD) : sProp 𝕄 :=
  iprop(unscopedSems0 c ∗ ((c : Thread nD τ).loc main_arg0 ↦{fullShare} xOf m c) ∗ ((c : Thread nD τ).loc main_v1 ↦{fullShare} throughAll (xOf m (peer c))))

def Φ₀ (c : Dev nD) : sProp 𝕄 := iprop(start m c ∗ scratch (F := F) c)
def Φ₁ (c : Dev nD) : sProp 𝕄 :=
  iprop(finish m c ∗ Pipeline.ownSems0 (Ix := Unit) (Name := ℕ) (U := UU) (Lvl := ℕ) (Val := Elt F) (τ := τ) osem c ∗ scratch (F := F) c)

def dats (_ : Fin 1) (c : Dev nD) : Dat τ (Elt F) Unit ℕ UU ℕ cfg0 c where
  A w := m ((cfg0.win w).arr.view.loc (c : Thread nD τ))
  after w _ := match w with
    | ⟨0, _⟩ => tstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body's obligation -/

/-- What the device starts from is what the body takes. -/
theorem body_enter (c : Dev nD) (K : Dev nD × CI → ℕ) :
    iprop(linear (F := F) c
        ∗ (cred (tallyAt (cell c none) () 1)
          ∗ (bigSep Finset.univ fun k : Fin 8 => cred (tallyAt (cell c (some (1, k))) () (amt (some (1, k)))))
          ∗ (bigSep Finset.univ fun k : Fin 8 => cred (tallyAt (cell c (some (3, k))) () (amt (some (3, k))))))
        ∗ ((c : Thread nD τ).loc main_arg0 ↦{fullShare} xOf m c) ∗ (∃ f : FVec F S4096x2048 .f32, (c : Thread nD τ).loc main_v1 ↦{fullShare} f)
        ∗ scratch (F := F) c ∗ ow (F := F) c (O₀ c))
      ⊢ bodyIn (xOf m) c := by
  unfold linear away slots scratch bodyIn freeIn freeOut rin posL
  rw [bigSep_cells, bigSep_sep4, bigSep_sep' Finset.univ (fun k : Fin 8 => (atPos ER (cell c (some (0, k))) 0 ∅ 0 : sProp 𝕄))]
  iintro ⟨⟨⟨Hab, Ha0, Ha1, Ha2, Ha3⟩, ⟨Htb, Htk⟩, ⟨Hi0, Hi1, Ho0, Ho1⟩⟩, ⟨Hcb, Hc1, Hc3⟩, Hx, ⟨%f, Hv⟩, ⟨B0, B1, B2, B3, B4, B5⟩, HO⟩
  ihave Hx' := (split_x c (xOf m)) $$ Hx
  ihave Hv' := (split_o c f) $$ Hv
  ihave B0' := (split_in (F := F) c) $$ B0
  icases B0' with ⟨I0, I1⟩
  ihave B1' := (split_out (F := F) c) $$ B1
  icases B1' with ⟨U0, U1⟩
  isplitl [Hab Htb Hcb]
  · isplitl [Hcb]; · iexact Hcb
    isplitl [Hab] <;> iassumption
  isplitl [B3 B5]
  · iapply (split_landing (F := F) c)
    isplitl [B3] <;> iassumption
  isplitl [HO]; · iexact HO
  isplitl [Hx' Hv']
  · isplitl [Hx'] <;> iassumption
  isplitl [Hi0 Hi1 Ho0 Ho1 I0 I1 U0 U1]
  · isplitl [Hi0 Hi1 I0 I1]
    · isplitl [Hi0 I0]
      · isplitl [Hi0] <;> iassumption
      isplitl [Hi1] <;> iassumption
    isplitl [Ho0 U0]
    · isplitl [Ho0] <;> iassumption
    isplitl [Ho1] <;> iassumption
  isplitl [B2 B4 Htk]
  · isplitl [B2 B4]
    · iapply (split_own (F := F) c)
      isplitl [B2] <;> iassumption
    iexact Htk
  isplitl [Hc1 Hc3 Ha1 Ha3]
  · isplitl [Hc1 Hc3]
    · isplitl [Hc1] <;> iassumption
    isplitl [Ha1] <;> iassumption
  isplitl [Ha0] <;> iassumption

/-- What the body leaves is what the device ends with. -/
theorem body_leave (c : Dev nD) : iprop(exchPost (xOf m) c ∗ semVal (cell c none) 0) ⊢ iprop(Φ₁ m c ∗ ow (F := F) c 0) := by
  unfold exchPost Φ₁ finish scratch freeIn freeOut rout lout closedR
  rw [ownSems0_eq, unscopedSems0_eq, bigSep_kinds]
  rw [bigSep_sep' Finset.univ (fun k : Fin 8 => iprop(holdAny (F := F) c (qrC k) ∗ holdAny (F := F) c (srC k))),
    bigSep_sep' Finset.univ (fun k : Fin 8 => semVal (cell c (some (1, k))) 0),
    bigSep_sep' Finset.univ (fun k : Fin 8 => iprop(holdAny (F := F) c (qsC k) ∗ holdAny (F := F) c (ssC k))),
    bigSep_sep' Finset.univ (fun k : Fin 8 => semVal (cell c (some (0, k))) 0)]
  iintro ⟨⟨⟨Hx, Ho⟩, ⟨⟨⟨Hi0, I0⟩, ⟨Hi1, I1⟩⟩, ⟨⟨Ho0, U0⟩, ⟨Ho1, U1⟩⟩⟩, ⟨⟨Hland, ⟨H1, H3⟩⟩, ⟨Hown, ⟨H0, H2⟩⟩⟩, HO⟩, Hb⟩
  ihave Hland' := (show (bigSep Finset.univ fun k : Fin 8 => iprop(holdAny (F := F) c (qrC k) ∗ holdAny (F := F) c (srC k)))
      ⊢ iprop(anyBuf (F := F) c cc0_scratch3 ∗ anyBuf (F := F) c cc0_scratch5) from join_landing (F := F) c) $$ Hland
  icases Hland' with ⟨B3, B5⟩
  ihave Hown' := (join_own (F := F) c) $$ Hown
  icases Hown' with ⟨B2, B4⟩
  isplitr [HO]
  · isplitl [Hb Hx Ho]
    · isplitl [Hb]; · iexact Hb
      isplitl [Hx]
      · iapply (join_x c (xOf m)); iexact Hx
      iapply (join_o c (xOf m)); iexact Ho
    isplitl [Hi0 Hi1 Ho0 Ho1 H0 H1 H2 H3]
    · isplitl [Hi0]; · iexact Hi0
      isplitl [Hi1]; · iexact Hi1
      isplitl [Ho0]; · iexact Ho0
      isplitl [Ho1]; · iexact Ho1
      isplitl [H0]; · iexact H0
      isplitl [H1]; · iexact H1
      isplitl [H2] <;> iassumption
    isplitl [I0 I1]
    · iapply (join_in (F := F) c); isplitl [I0] <;> iassumption
    isplitl [U0 U1]
    · iapply (join_out (F := F) c); isplitl [U0] <;> iassumption
    isplitl [B2]; · iexact B2
    isplitl [B3]; · iexact B3
    isplitl [B4] <;> iassumption
  iexact HO

theorem table_before (c : Dev nD) (d) : (dats m 0 c).before (0 : Fin 1) t0_0 d = tstg m c := by
  unfold Dat.before; rw [if_pos (fetch0_0 t0_0)]; rfl

set_option maxRecDepth 4000 in
/-- The library's obligation of the body on device `c`. -/
theorem body_obligation (hpre : PreOK m) (c : Dev nD) : BodyObligation (dats m 0 c) (defs₀ (F := F)) 𝒱₀ () Set.univ := fun t => by
  rw [fin_N0 t]
  rw [bigSep_W0, bigSep_W0]
  simp only [owns_whole_eq]
  show iprop(Φ₀ m c ∗ (dats m 0 c).owesAt () (Fin.castSucc t0_0)
      ∗ (∃ d, ∃ f : Buf (Elt F) ((c : Thread nD τ).loc cc0_stg0_0), ⌜f = (dats m 0 c).before (0 : Fin 1) t0_0 d⌝ ∗ (((c : Thread nD τ).loc cc0_stg0_0) ↦{fullShare} f)))
    ⊢ run c (bodyAt0 t0_0) (fun _ => iprop(Φ₁ m c ∗ (dats m 0 c).owesAt () (Fin.succ t0_0)
      ∗ (∃ f : Buf (Elt F) ((c : Thread nD τ).loc cc0_stg0_0), ⌜f = tstg m c⌝ ∗ (((c : Thread nD τ).loc cc0_stg0_0) ↦{fullShare} f))))
  rw [body_eq t0_0 rfl]
  unfold Φ₀ start G' Dat.owesAt Pipeline.owesWithin
  rw [show (dats m 0 c).owed (Fin.castSucc t0_0) = O₀ c from rfl, show (dats m 0 c).owed (Fin.succ t0_0) = 0 from rfl]
  iintro ⟨⟨⟨⟨%K, #HR, Hlin⟩, Hcr, #Hlev, Hx, Hv⟩, Hscr⟩, ⟨%W, %hW, HO⟩, ⟨%d, %f, %hf, Ht⟩⟩
  have hf' : f = tstg m c := hf.trans (table_before m c d)
  subst hf'
  iapply (run_body (xOf m) K c (tstg m c) (word_tstg m hpre c) _) $$ [Hlin Hcr Hx Hv Hscr HO Ht]
  · isplitr; · iexact HR
    isplitr; · iexact Hlev
    isplitr [Ht]
    · iapply (body_enter m c K)
      isplitl [Hlin]; · iexact Hlin
      isplitl [Hcr]; · iexact Hcr
      isplitl [Hx]; · iexact Hx
      isplitl [Hv]; · iexact Hv
      isplitl [Hscr]; · iexact Hscr
      unfold ow; iexists W; iexact HO
    iexact Ht
  iintro ⟨Hpost, Hz, Ht⟩
  ihave Hend := (body_leave m c) $$ [Hpost Hz]
  · isplitl [Hpost] <;> iassumption
  icases Hend with ⟨HΦ, HO⟩
  unfold ow
  icases HO with ⟨%W', HO⟩
  isplitl [HΦ]; · iexact HΦ
  isplitl [HO]
  · iexists W'
    isplitr; · ipureintro; exact fun _ _ => Or.inl trivial
    iexact HO
  iexists (tstg m c)
  isplitr; · (ipureintro; rfl)
  iexact Ht

/-! ## The launch theorem's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xOf m) c)
      ⊢ |={Set.univ}=> iprop(start m c ∗ emp) := by
  rw [Pipeline.unscopedRestP_none, unscopedRest0_eq]
  iintro ⟨⟨Hx, Hv⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [Hx]; · iexact Hx
    iexists _; iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch anyBuf
  iintro ⟨Hs, -, Hr⟩
  isplitl [Hs] <;> iassumption

theorem phi1_exit (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = Φ₁ m c from rfl, scopedRest0_eq]
  unfold Φ₁ scratch anyBuf
  iintro H; iexact H

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_launch c _ (by fin_cases w <;> fin_cases s <;> decide)
    · show (levAts L lv : sProp 𝕄) ⊢ MayWait _ _ _ 0
      rw [MayWait_zero]; iintro -; iempintro

/-- What is read of a final state on device `c`. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = xOf m c ∧ s.mem ((c : Thread nD τ).loc main_v1) = throughAll (xOf m (peer c))

theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  iintro ⟨H, HSI⟩
  ihave H' := (pointsTo_read_all ({()} : Finset Unit) (fun _ => ℓ) (fun _ => f) s') $$ [H HSI]
  · rw [bigSep_singleton]; isplitl [H] <;> iassumption
  icases H' with ⟨%h, HSI⟩
  isplitr; · ipureintro; exact h () (Finset.mem_singleton_self _)
  iexact HSI

theorem read_end (c : Dev nD) (s' : Phys nD τ sig (Elt F)) : iprop(finish m c ∗ emp ∗ SI s') ⊢ |={Set.univ}=> iprop(⌜QY m c s'.mem⌝ ∗ SI s') := by
  unfold finish
  iintro ⟨⟨Hu, Hx, Hv⟩, -, HSI⟩
  ihave H1 := (read_one (F := F) _ _ s') $$ [Hx HSI]
  · isplitl [Hx] <;> iassumption
  icases H1 with ⟨%hx, HSI⟩
  ihave H2 := (read_one (F := F) _ _ s') $$ [Hv HSI]
  · isplitl [Hv] <;> iassumption
  icases H2 with ⟨%hv, HSI⟩
  imod (Pipeline.unscopedSems0_read (X := unscopedSems0 c) (c := c) fupd_intro s') $$ [Hu HSI] with ⟨%hs, HSI⟩
  · isplitl [Hu] <;> iassumption
  imodintro
  isplitr; · ipureintro; exact ⟨hs, hx, hv⟩
  iexact HSI

/-! ## The run -/

/-- What the run leaves: the result, the two arguments, and every counter at zero. -/
def Post (r : PUnit × MemSt nD τ sig (Elt F)) : Prop :=
  (∀ c : Dev nD, r.2.mem ((c : Thread nD τ).loc main_v1) = throughAll (xOf m (peer c))
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0

set_option maxRecDepth 8000 in
/-- Over any float values, from any memory in which `pi` is the swap: the eight devices' kernels terminate, each device's
    result is its peer's half of `x` quantised and dequantised, the arguments are unchanged, every counter is zero. -/
theorem run_main (hpre : PreOK m) : θ_run defs (onTc (τ := τ) (main (F := F))) ⟨m, fun _ => 0, ρ⟩ (Post m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m hpre c)) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (xOf m)) (G' := G' (xOf m)) (u₀ := u₀)
    (hu₀ := by
      unfold u₀
      iintro Hu
      ihave H := (ownU_pair _ _) $$ Hu
      icases H with ⟨HP, HX⟩
      ihave H' := (own_pair_emb _ _ _) $$ HX
      icases H' with ⟨HX, -⟩
      imod (fund_cells (xOf m)) $$ HX with HG
      imodintro
      isplitl [HP] <;> iassumption)
    (hglob := glob (xOf m))
    (hA := fun _ _ => rfl) (hpf := fun _ k => k.elim0)
    (X := start m) (Y := finish m) (Z := fun _ => iprop(emp))
    (hX := start_intro m ρ) (hin := phi0_intro m) (hout := phi1_exit m)
    (QY := QY m) (hY := read_end m)
    (hQ := fun s h hs => ⟨fun c => ⟨(h c).2.2.2.2, (h c).2.2.2.1, ((h c).1 (0 : Fin 1)).trans ((dats m 0 c).arrAt_in (0 : Fin 1) rfl _)⟩,
      sem_eq_zero hs fun c => (h c).2.2.1⟩)

end Cert.Exchange
-- ==== Proof.Frames.lean ====
/-
The frames: the certificate's precondition read as `PreOK`, and from the run of the whole mesh that the kernel, over the
chip's floats and over the extended reals, terminates with its arguments unchanged and every semaphore counter at zero.
The reference's own frame follows from its generated run.
-/
module

public import proofs.«01_k».proof.Defs
public import proofs.«01_k».proof.Proof.Launch
public import proofs.«01_k».proof.Proof.Gen.Kernel
public import proofs.«01_k».proof.Proof.Gen.ReferenceIdeal.Run
public import proofs.«01_k».proof.Proof.Gen.Pre_swap_Kernel
public import proofs.«01_k».proof.Proof.Gen.Pre_swap_ReferenceIdeal
public import Idealize.ShloMosaic.Lib.Quiescent

@[expose] public section

noncomputable section

namespace Cert.Exchange

open Idealize.ShloMosaic Idealize.ShloMosaic.TcCoe Idealize.SL.Sem

variable {F : FTy → Type} [FloatOps F]

attribute [local instance] Cert.Kernel.Gen.facts Cert.KernelIdeal.Gen.facts

/-- Where the precondition holds, `pi` is `[1, 0]`. -/
theorem swap_of_pre (x : FVec F Cert.Pre_swap_Kernel.S4096x2048 .f32) (pi : IVec Cert.Pre_swap_Kernel.S2 32)
    (h : Cert.Pre_swap_Kernel.fn x pi = fun _ => 1#1) (i : Cert.Pre_swap_Kernel.S2.Idx) : pi i = BitVec.ofNat 32 (1 - (i 0).val) := by
  have e : BitVec.ofBool (pi i == Cert.Pre_swap_Kernel.lit0 (Cert.Pre_swap_Kernel.S2.rowMajor i)) = 1#1 := congrFun h i
  have e' : pi i = Cert.Pre_swap_Kernel.lit0 (Cert.Pre_swap_Kernel.S2.rowMajor i) := by
    cases hb : (pi i == Cert.Pre_swap_Kernel.lit0 (Cert.Pre_swap_Kernel.S2.rowMajor i))
    · rw [hb] at e; exact absurd e (by decide)
    · exact eq_of_beq hb
  rw [e']
  clear e e' h
  revert i; decide +kernel

/-! The chip's program and the one read over the extended reals are one text: no operation is rewritten between them. -/

theorem body_same : Cert.Kernel.cc0_body (F := F) = Cert.KernelIdeal.cc0_body (F := F) := rfl

theorem defs₀_same : Cert.Kernel.defs₀ (F := F) = Cert.KernelIdeal.defs₀ (F := F) :=
  congrArg Defs.onTc (funext fun l => funext fun a => by
    match l, a with
    | 0, (t, s) => rfl
    | ⟨_ + 1, h⟩, _ => exact absurd h (Nat.not_lt.2 (Nat.le_add_left _ _)))

theorem defs_same : Cert.Kernel.defs (F := F) = Cert.KernelIdeal.defs (F := F) := congrArg (Pipeline.defs _) defs₀_same

theorem frame_kernel : Cert.quiescent_Kernel (hKernel := Cert.Kernel.Gen.facts) (hPre_swap_Kernel := Cert.Pre_swap_Kernel.Gen.facts) := by
  intro m ρ hpre
  rw [defs_same]
  exact (θ_run (Cert.KernelIdeal.defs (F := Bits)) _ _).mono (fun _ h => And.intro (fun c => (h.1 c).2) h.2)
    (run_main (F := Bits) m ρ fun c i => swap_of_pre _ _ (hpre c) i)

theorem frame_kernelIdeal :
    Cert.quiescent_KernelIdeal (hKernelIdeal := Cert.KernelIdeal.Gen.facts) (hPre_swap_Kernel := Cert.Pre_swap_Kernel.Gen.facts) :=
  fun m ρ hpre => (θ_run (Cert.KernelIdeal.defs (F := Ideal)) _ _).mono (fun _ h => ⟨fun c => (h.1 c).2, h.2⟩)
    (run_main (F := Ideal) m ρ fun c i => swap_of_pre _ _ (hpre c) i)

theorem frame_reference : Cert.quiescent_ReferenceIdeal (hReferenceIdeal := Cert.ReferenceIdeal.Gen.facts) :=
  fun m ρ _ => (θ_run (Cert.ReferenceIdeal.defs (F := Ideal)) _ _).mono
    (fun r h => ⟨fun c => (h c).2, sem_eq_zero_of_no_sems (by decide) r.2⟩) (Cert.ReferenceIdeal.Value.run (F := Ideal) m ρ)

theorem frame_reference_swap : Cert.quiescent_ReferenceIdeal_pre_swap_ReferenceIdeal (hReferenceIdeal := Cert.ReferenceIdeal.Gen.facts)
    (hPre_swap_ReferenceIdeal := Cert.Pre_swap_ReferenceIdeal.Gen.facts) :=
  fun m ρ _ => (θ_run (Cert.ReferenceIdeal.defs (F := Ideal)) _ _).mono
    (fun r h => ⟨fun c => (h c).2, sem_eq_zero_of_no_sems (by decide) r.2⟩) (Cert.ReferenceIdeal.Value.run (F := Ideal) m ρ)

end Cert.Exchange
-- ==== Proof.Quant.lean ====
/-
The quantiser on one element, over the extended reals. With `A` at least the element's magnitude and positive, the scaled
and rounded element is an integer between −127 and 127, whatever the element: so a conversion of it to 8 bits directly and
one through 32 bits give the same code.
-/
module

public import Idealize.ShloMosaic.PureOps.Ideal

@[expose] public section

noncomputable section

namespace Cert.Quant

open Idealize.ShloMosaic

/-- The three constants of the quantiser: 127, the least scale's bound and 1/127 (as f32 writes them). -/
abbrev c127 : EReal := Ideal.ofBits .f32 0x42FE0000#32
abbrev tiny : EReal := Ideal.ofBits .f32 0x0DA24260#32
abbrev inv127 : EReal := Ideal.ofBits .f32 0x3C010204#32

theorem c127_eq : c127 = ((127 : ℝ) : EReal) := by
  unfold c127
  simp [Ideal.ofBits, Ideal.ieee, -EReal.coe_mul]; norm_num

theorem tiny_pos : 0 < tiny := by
  unfold tiny
  simp [Ideal.ofBits, Ideal.ieee, -EReal.coe_mul]

/-- The scaled element, before rounding. -/
def scaled (x A : EReal) : EReal := x * Ideal.div c127 A

theorem round_bounds {t : ℝ} (h1 : -127 ≤ t) (h2 : t ≤ 127) : -127 ≤ Ideal.roundHalfEven t ∧ Ideal.roundHalfEven t ≤ 127 := by
  have hf1 : (-127 : ℤ) ≤ ⌊t⌋ := Int.le_floor.mpr (by exact_mod_cast h1)
  have hf2 : ⌊t⌋ ≤ (127 : ℤ) := by
    have h : ((⌊t⌋ : ℤ) : ℝ) ≤ ((127 : ℤ) : ℝ) := (Int.floor_le t).trans (by exact_mod_cast h2)
    exact_mod_cast h
  have hf3 : ¬ t - ⌊t⌋ < 1 / 2 → ⌊t⌋ + 1 ≤ (127 : ℤ) := fun h => by
    by_contra hc
    have e : (⌊t⌋ : ℤ) = 127 := by omega
    rw [e] at h
    exact h (by push_cast; linarith)
  unfold Ideal.roundHalfEven
  dsimp only
  split
  · exact ⟨hf1, hf2⟩
  · rename_i h
    have := hf3 h
    split
    · constructor <;> omega
    · split <;> constructor <;> omega

theorem scaled_bounds {x A : EReal} (h : max x (-x) ≤ A) (hA : 0 < A) : ∃ t : ℝ, scaled x A = (t : EReal) ∧ -127 ≤ t ∧ t ≤ 127 := by
  have h1 : x ≤ A := (le_max_left _ _).trans h
  have h2 : -x ≤ A := (le_max_right _ _).trans h
  unfold scaled Ideal.div
  rw [if_neg hA.ne', c127_eq]
  induction A with
  | bot => exact absurd hA (by simp)
  | top => exact ⟨0, by simp, by norm_num, by norm_num⟩
  | coe a =>
    have ha : 0 < a := by exact_mod_cast hA
    induction x with
    | bot => exact absurd h2 (by simp)
    | top => exact absurd h1 (by simp)
    | coe r =>
      have r1 : r ≤ a := by exact_mod_cast h1
      have r2 : -r ≤ a := by exact_mod_cast h2
      refine ⟨r * (127 * a⁻¹), by push_cast; rfl, ?_, ?_⟩
      · have e : r * (127 * a⁻¹) = r / a * 127 := by field_simp
        rw [e]
        have : -1 ≤ r / a := by rw [le_div_iff₀ ha]; linarith
        linarith
      · have e : r * (127 * a⁻¹) = r / a * 127 := by field_simp
        rw [e]
        have : r / a ≤ 1 := by rw [div_le_iff₀ ha]; linarith
        linarith

/-- The element's rounding is an integer of magnitude at most 127. -/
theorem rounded {x A : EReal} (h : max x (-x) ≤ A) (hA : 0 < A) :
    ∃ n : ℤ, -127 ≤ n ∧ n ≤ 127 ∧ Ideal.liftRound Ideal.roundHalfEven (scaled x A) = ((n : ℝ) : EReal) := by
  obtain ⟨t, e, h1, h2⟩ := scaled_bounds h hA
  exact ⟨Ideal.roundHalfEven t, (round_bounds h1 h2).1, (round_bounds h1 h2).2, by rw [e]; rfl⟩

theorem toIntClamped_int (lo hi n : ℤ) (h1 : lo ≤ n) (h2 : n ≤ hi) : Ideal.toIntClamped lo hi ((n : ℝ) : EReal) = n := by
  show max lo (min hi (if 0 ≤ (n : ℝ) then ⌊(n : ℝ)⌋ else ⌈(n : ℝ)⌉)) = n
  rw [Int.floor_intCast, Int.ceil_intCast, ite_self, min_eq_right h2, max_eq_right h1]

/-- What the 8-bit code of such an integer is read back as. -/
theorem code8 (n : ℤ) (h1 : -127 ≤ n) (h2 : n ≤ 127) : (Ideal.fptosi 8 ((n : ℝ) : EReal)).toInt = n := by
  unfold Ideal.fptosi
  rw [toIntClamped_int _ _ _ (by norm_num; omega) (by norm_num; omega), BitVec.toInt_ofInt]
  rw [Int.bmod_def]; split <;> omega

/-- What its code is read back as when it is converted to 32 bits, cut to 8 and extended again. -/
theorem code32 (n : ℤ) (h1 : -127 ≤ n) (h2 : n ≤ 127) :
    (((Ideal.fptosi 32 ((n : ℝ) : EReal)).setWidth 8).signExtend 32).toInt = n := by
  unfold Ideal.fptosi
  rw [toIntClamped_int _ _ _ (by norm_num; omega) (by norm_num; omega), BitVec.toInt_signExtend_of_le (by norm_num),
    BitVec.toInt_setWidth, BitVec.toNat_ofInt, Int.bmod_def]
  split <;> omega

/-- One element quantised and dequantised, through either conversion. -/
theorem same {x A : EReal} (h : max x (-x) ≤ A) (hA : 0 < A) :
    ((((((Ideal.fptosi 32 (Ideal.liftRound Ideal.roundHalfEven (scaled x A))).setWidth 8).signExtend 32).toInt : ℤ) : ℝ) : EReal)
      = ((((Ideal.fptosi 8 (Ideal.liftRound Ideal.roundHalfEven (scaled x A))).toInt : ℤ) : ℝ) : EReal) := by
  obtain ⟨n, h1, h2, e⟩ := rounded h hA
  rw [e, code8 n h1 h2, code32 n h1 h2]

end Cert.Quant
-- ==== Proof.Value.lean ====
/-
What the kernel's quantiser and the reference's give on one element, over the extended reals. Both are the element's code
times its column's scale, the column being the 512 rows of the element's chunk at its place in the row.
-/
module

public import proofs.«01_k».proof.Proof.Quant
public import proofs.«01_k».proof.Proof.Protocol
public import proofs.«01_k».proof.Proof.Gen.ReferenceIdeal.Read
public import Idealize.ShloMosaic.Lib.Pointwise
public import Idealize.ShloMosaic.Lib.Pipeline.Value

@[expose] public section

noncomputable section

namespace Cert.Exchange

open Idealize.ShloMosaic Cert.Quant

/-- The greatest magnitude of a column, at least the tiny bound. -/
def colMax (col : Fin 512 → EReal) : EReal :=
  max ((Finset.univ : Finset (Fin 512)).fold max (Ideal.ofBits .f32 0xFF800000#32) fun k => max (col k) (-(col k))) tiny

theorem colMax_pos (col : Fin 512 → EReal) : 0 < colMax col := lt_max_of_lt_right tiny_pos

theorem le_colMax (col : Fin 512 → EReal) (k : Fin 512) : max (col k) (-(col k)) ≤ colMax col :=
  le_max_of_le_left ((Finset.le_fold_max _).mpr (.inr ⟨k, Finset.mem_univ k, le_rfl⟩))

/-- An element `x` quantised and dequantised where its column's greatest magnitude is `A`. -/
def elem (x A : EReal) : EReal :=
  ((((Ideal.fptosi 8 (Ideal.liftRound Ideal.roundHalfEven (scaled x A))).toInt : ℤ) : ℝ) : EReal) * (A * inv127)

/-! ## The operations at an index -/

section Ops

variable {s : Shape}

theorem mulf_at (x y : FVec Ideal s .f32) (i : s.Idx) : mulf x y i = x i * y i := rfl
theorem divf_at (x y : FVec Ideal s .f32) (i : s.Idx) : divf x y i = Ideal.div (x i) (y i) := rfl
theorem max_at (x y : FVec Ideal s .f32) (i : s.Idx) : maximumf x y i = max (x i) (y i) := rfl
theorem fptosi_at (x : FVec Ideal s .f32) (i : s.Idx) : fptosi 8 x i = Ideal.fptosi 8 (x i) := rfl
theorem roundeven_at (x : FVec Ideal s .f32) (i : s.Idx) : roundeven x i = Ideal.liftRound Ideal.roundHalfEven (x i) := rfl
theorem sitofp_at (x : IVec s 8) (i : s.Idx) : (sitofp .f32 x : FVec Ideal s .f32) i = ((((x i).toInt : ℤ) : ℝ) : EReal) := rfl
theorem const_at (b : BitVec 32) (i : s.Idx) : (broadcast s (Scalar.ofBits (F := Ideal) .f32 b)) i = Ideal.ofBits .f32 b := rfl

end Ops

/-! ## The kernel's -/

section Kernel

open Cert.KernelIdeal Cert.KernelIdeal.Gen

/-- The column of a chunk that element `j` lies in. -/
def colOf (v : FVec Ideal S512x2048 .f32) (l : Fin 2048) : Fin 512 → EReal := fun k => v (ix2 k l)

/-- A column's place among the 2048. -/
def atCol (l : Fin 2048) : S2048.Idx := fun a => match a with | ⟨0, _⟩ => l

theorem chunk_cast (v : FVec Ideal S512x2048 .f32) : k0_pay6 (asSlot v) = v := shapeCast_shapeCast v _ _

/-- The column maxima of the magnitudes. -/
def colFold (v : FVec Ideal S512x2048 .f32) : FVec Ideal S2048 .f32 :=
  multiReduction .maximumf [0] S2048 (absf v) 0xFF800000#32 reduces_S512x2048_S2048 (.inl rfl) rfl

theorem colFold_apply (v : FVec Ideal S512x2048 .f32) (l : Fin 2048) : colFold v (atCol l)
    = (Finset.univ : Finset (Fin 512)).fold max (Ideal.ofBits .f32 0xFF800000#32) fun k => max (colOf v l k) (-(colOf v l k)) :=
  (multiReduction_maximumf_eq_fold (absf v) 0xFF800000#32 reduces_S512x2048_S2048 (.inl rfl) rfl (atCol l)).trans
    (Shape.Reduces.fold_fiber_r2_a0 reduces_S512x2048_S2048 (atCol l) _ _ (absf v))

theorem amax_eq (v : FVec Ideal S512x2048 .f32) : k0_pay7 (asSlot v)
    = maximumf (shapeCast S1x2048 (colFold v) shapeCasts_S2048_S1x2048) (broadcast S1x2048 (Scalar.ofBits .f32 0x0DA24260#32)) := by
  unfold k0_pay7
  rw [chunk_cast]
  rfl

theorem amax_apply (v : FVec Ideal S512x2048 .f32) (i : S1x2048.Idx) : k0_pay7 (asSlot v) i = colMax (colOf v (i 1)) := by
  have h := shapeCast_apply (colFold v) shapeCasts_S2048_S1x2048 i (atCol (i 1)) (by
    have h0 : (i 0).val < 1 := (i 0).isLt
    rw [Shape.rowMajor_val_one, Shape.rowMajor_val_two]
    show (i 1).val = (i 0).val * 2048 + (i 1).val
    omega)
  rw [amax_eq, max_at, h, const_at]
  unfold colMax
  exact congrArg (max · tiny) (colFold_apply v (i 1))

theorem scales_apply (v : FVec Ideal S512x2048 .f32) (i : S1x2048.Idx) : scales v i = colMax (colOf v (i 1)) * inv127 := by
  have e : scales v = mulf (k0_pay7 (asSlot v)) (broadcast S1x2048 (Scalar.ofBits .f32 0x3C010204#32)) := by
    unfold scales sclP k0_pay8
    exact shapeCast_self _ _
  rw [e, mulf_at, amax_apply, const_at]

/-- Row 0 of the scales, at the element's place in the row. -/
def rowOf (j : S512x2048.Idx) : S1x2048.Idx := ix2 (0 : Fin 1) (j 1)

theorem bcast_apply (s : S1x2048.Idx → EReal) (j : S512x2048.Idx) : broadcastTo S512x2048 s broadcasts_S1x2048_S512x2048 j = s (rowOf j) :=
  broadcastTo_apply s _ j (rowOf j) fun a => match a with
    | ⟨0, _⟩ => by show 0 = if (1 : Nat) = 1 then 0 else _; rw [if_pos rfl]
    | ⟨1, _⟩ => by show (j 1).val = if (2048 : Nat) = 1 then 0 else (j 1).val; rw [if_neg (by decide)]

theorem codes_apply (v : FVec Ideal S512x2048 .f32) (j : S512x2048.Idx) :
    codes v j = Ideal.fptosi 8 (Ideal.liftRound Ideal.roundHalfEven (scaled (v j) (colMax (colOf v (j 1))))) := by
  have e : codes v = fptosi 8 (roundeven (mulf v (broadcastTo S512x2048
      (divf (broadcast S1x2048 (Scalar.ofBits .f32 0x42FE0000#32)) (k0_pay7 (asSlot v))) broadcasts_S1x2048_S512x2048))) := by
    unfold codes codP k0_pay9
    rw [chunk_cast]
    exact shapeCast_self _ _
  rw [e, fptosi_at, roundeven_at, mulf_at, bcast_apply, divf_at, amax_apply, const_at]
  unfold scaled
  rfl

theorem through_apply (v : FVec Ideal S512x2048 .f32) (j : S512x2048.Idx) : through v j = elem (v j) (colMax (colOf v (j 1))) := by
  have e : through v = mulf (sitofp .f32 (codes v)) (broadcastTo S512x2048 (scales v) broadcasts_S1x2048_S512x2048) := by
    unfold through deqOf deqP k0_pay37
    exact shapeCast_shapeCast _ _ _
  rw [e, mulf_at, sitofp_at, bcast_apply, scales_apply, codes_apply]
  unfold elem
  rfl

end Kernel

/-! ## The reference's -/

section Reference

open Cert.ReferenceIdeal Cert.ReferenceIdeal.Gen Cert.ReferenceIdeal.Read

/-- The column of half `h`, chunk `k`, at place `l`. -/
def colAt (x : FVec Ideal S2x8x512x2048 .f32) (h : Fin 2) (k : Fin 8) (l : Fin 2048) : Fin 512 → EReal := fun r => x (ix4 h k r l)

theorem ref_amax (x : FVec Ideal S8192x2048 .f32) (i : S2x8x1x2048.Idx) :
    val_main_v5 (F := Ideal) x i = colMax (colAt (val_main_v0 (F := Ideal) x) (i 0) (i 1) (i 3)) := by
  rw [val_main_v5_apply, val_main_v3_apply, val_main_v4_apply]
  show max (val_main_v2 (F := Ideal) x (idx_main_v3 i)) tiny = _
  unfold val_main_v2
  rw [Host.reduce_eq_fold, Shape.ReducesTo.fold_fiber_r4_a2]
  rfl

theorem ref_elem (x : FVec Ideal S8192x2048 .f32) (i : S2x8x512x2048.Idx) :
    val_main_v18 (F := Ideal) x i
      = elem (val_main_v0 (F := Ideal) x i) (colMax (colAt (val_main_v0 (F := Ideal) x) (i 0) (i 1) (i 3))) := by
  have h17 : val_main_v17 (F := Ideal) x i = colMax (colAt (val_main_v0 (F := Ideal) x) (i 0) (i 1) (i 3)) * inv127 := by
    rw [val_main_v17_apply, val_main_v7_apply, val_main_v6_apply, ref_amax]
    rfl
  have h10 : val_main_v10 (F := Ideal) x i = Ideal.div c127 (colMax (colAt (val_main_v0 (F := Ideal) x) (i 0) (i 1) (i 3))) := by
    rw [val_main_v10_apply, val_main_v9_apply, val_main_v8_apply, ref_amax]
    rfl
  have h12 : val_main_v12 (F := Ideal) x i = Ideal.liftRound Ideal.roundHalfEven
      (scaled (val_main_v0 (F := Ideal) x i) (colMax (colAt (val_main_v0 (F := Ideal) x) (i 0) (i 1) (i 3)))) := by
    rw [val_main_v12_apply, val_main_v11_apply, h10]
    rfl
  have hle : max (val_main_v0 (F := Ideal) x i) (-(val_main_v0 (F := Ideal) x i))
      ≤ colMax (colAt (val_main_v0 (F := Ideal) x) (i 0) (i 1) (i 3)) := by
    have h := le_colMax (colAt (val_main_v0 (F := Ideal) x) (i 0) (i 1) (i 3)) (i 2)
    have e : colAt (val_main_v0 (F := Ideal) x) (i 0) (i 1) (i 3) (i 2) = val_main_v0 (F := Ideal) x i :=
      congrArg (val_main_v0 (F := Ideal) x) (funext fun a => match a with
        | ⟨0, _⟩ => rfl | ⟨1, _⟩ => rfl | ⟨2, _⟩ => rfl | ⟨3, _⟩ => rfl)
    rwa [e] at h
  rw [val_main_v18_apply, val_main_v16_apply, val_main_v15_apply, val_main_v14_apply, val_main_v13_apply, h17, h12]
  show ((((((Ideal.fptosi 32 (Ideal.liftRound Ideal.roundHalfEven (scaled _ _))).setWidth 8).signExtend 32).toInt : ℤ) : ℝ) : EReal) * _ = _
  rw [Quant.same hle (colMax_pos _)]
  rfl

end Reference

end Cert.Exchange
-- ==== Proof.Bridge.lean ====
/-
What the reference computes, element by element, when `pi` is the swap: half `h` of its result is the other half of `x`,
quantised and dequantised. A device's result is that of its peer's half of `x`, and its peer is the device of the same place
in the other half of the mesh; so each device ends holding its half of the reference's result.
-/
module

public import proofs.«01_k».proof.Defs
public import proofs.«01_k».proof.Proof.Value
public import proofs.«01_k».proof.Proof.Frames
public import Idealize.ShloMosaic.Lib.Layout

@[expose] public section

noncomputable section

namespace Cert.Exchange

open Idealize.ShloMosaic Idealize.ShloMosaic.TcCoe Idealize.SL.Sem Cert.Quant

attribute [local instance] Cert.Kernel.Gen.facts Cert.KernelIdeal.Gen.facts Cert.ReferenceIdeal.Gen.facts

section Reference

open Cert.ReferenceIdeal Cert.ReferenceIdeal.Gen Cert.ReferenceIdeal.Read

/-- The place of row `i`'s number in the list of row numbers. -/
def startAt (h : Fin 2) : S2x1.Idx := ix2 h (0 : Fin 1)

theorem start_lt (n : ℕ) : min n 1 < 2 := Nat.lt_succ_of_le (Nat.min_le_right _ _)

/-- The gather along the first axis at an index: the half that the row number names, the rest of the index as it stands. -/
theorem gather_at (y : S2x8x512x2048.Idx → EReal) (idx : IVec S2x1 32) (i : S2x8x512x2048.Idx) :
    Host.gather gather_S2x8x512x2048_S2x1_S2x8x512x2048_123_0_n_n_0_1_185122048 y idx i
      = y (ix4 (⟨min (idx (startAt (i 0))).toInt.toNat 1, start_lt _⟩ : Fin 2) (i 1) (i 2) (i 3)) := by
  unfold Host.gather
  congr 1
  funext a
  refine Fin.ext ?_
  match a with
  | ⟨0, _⟩ =>
    show GatherDims.start _ i idx 0 + GatherDims.batchCoord _ i 0 + GatherDims.offCoord _ i 0 = _
    have hs : GatherDims.start gather_S2x8x512x2048_S2x1_S2x8x512x2048_123_0_n_n_0_1_185122048 i idx 0
        = min (idx (startAt (i 0))).toInt.toNat 1 := by
      have hsi : ∀ q, GatherDims.siIdx gather_S2x8x512x2048_S2x1_S2x8x512x2048_123_0_n_n_0_1_185122048 i q = startAt (i 0) := fun q => by
        funext b
        refine Fin.ext ?_
        match b with
        | ⟨0, _⟩ => rfl
        | ⟨1, _⟩ => exact Nat.lt_one_iff.1 q.isLt
      exact congrArg (fun q => min (idx q).toInt.toNat 1) (hsi ⟨0, Nat.one_pos⟩)
    rw [hs]
    rfl
  | ⟨1, _⟩ => exact Nat.zero_add _
  | ⟨2, _⟩ => exact Nat.zero_add _
  | ⟨3, _⟩ => exact Nat.zero_add _

/-- The swap. -/
def swap : IVec S2 32 := fun i => BitVec.ofNat 32 (1 - (i 0).val)

theorem order_swap : ∀ i : S2.Idx, val_main_v24 (F := Ideal) swap i = BitVec.ofNat 32 (1 - (i 0).val) := by decide +kernel

theorem toNat_swap : ∀ h : Fin 2, min (BitVec.ofNat 32 (1 - h.val)).toInt.toNat 1 = 1 - h.val := by decide

/-- The other half. -/
def across (h : Fin 2) : Fin 2 := ⟨1 - h.val, by omega⟩

theorem ref_at (x : FVec Ideal S8192x2048 .f32) (h : Fin 2) (k : Fin 8) (r : Fin 512) (l : Fin 2048) :
    val_main_v26 (F := Ideal) x swap (ix4 h k r l)
      = elem (val_main_v0 (F := Ideal) x (ix4 (across h) k r l)) (colMax (colAt (val_main_v0 (F := Ideal) x) (across h) k l)) := by
  unfold val_main_v26
  rw [gather_at, ref_elem, val_main_v25_apply, order_swap]
  have e : (⟨min (BitVec.ofNat 32 (1 - h.val)).toInt.toNat 1, start_lt _⟩ : Fin 2) = across h := Fin.ext (toNat_swap h)
  exact congrArg (fun g : Fin 2 => elem (val_main_v0 (F := Ideal) x (ix4 g k r l)) (colMax (colAt (val_main_v0 (F := Ideal) x) g k l))) e

end Reference

/-! ## The blocks -/

/-- The half of the mesh that a device lies in. -/
def halfOf (c : Fin 8) : Fin 2 := ⟨c.val / 4, by omega⟩

theorem half_peer (c : Fin 8) : halfOf (peer c) = across (halfOf c) := by revert c; decide

/-- The block of a whole array that device `c` holds. -/
abbrev blockAt (c : Fin 8) (x : (⟨2, ![8192, 2048]⟩ : Shape).Idx → EReal) : (⟨2, ![4096, 2048]⟩ : Shape).Idx → EReal :=
  Layout.blockN ⟨2, ![4096, 2048]⟩ ⟨2, ![8192, 2048]⟩ (Layout.meshBlock [2, 2, 2] ![[0], []] c) x

/-- Row `i 0` of half `h`. -/
def rowIn (h : Fin 2) (i : (⟨2, ![4096, 2048]⟩ : Shape).Idx) : (⟨2, ![8192, 2048]⟩ : Shape).Idx :=
  ix2 (⟨h.val * 4096 + (i 0).val, by have h0 : (i 0).val < 4096 := (i 0).isLt; omega⟩ : Fin 8192) (i 1)

theorem mesh_row : ∀ c : Fin 8, Layout.meshLin [2, 2, 2] c.val [0] = (halfOf c).val := by decide

theorem block_at (c : Fin 8) (x : (⟨2, ![8192, 2048]⟩ : Shape).Idx → EReal) (i : (⟨2, ![4096, 2048]⟩ : Shape).Idx) :
    blockAt c x i = x (rowIn (halfOf c) i) := by
  unfold blockAt
  rw [Layout.blockN_apply]
  refine congrArg x (funext fun a => Fin.ext ?_)
  rw [Layout.TilesN.idx_val, Layout.meshBlock_val]
  match a with
  | ⟨0, _⟩ => exact congrArg (· * 4096 + (i 0).val) (mesh_row c)
  | ⟨1, _⟩ => exact (congrArg (· + (i 1).val) (Nat.zero_mul 2048)).trans (Nat.zero_add _)

section Join

open Cert.KernelIdeal Cert.KernelIdeal.Gen

/-- An element of a chunk of a device's block is that of the whole array's half and chunk. -/
theorem chunk_at (c : Fin 8) (x : FVec Ideal Cert.ReferenceIdeal.S8192x2048 .f32) (k : Fin 8) (r : Fin 512) (l : Fin 2048) :
    chunkOf (F := Ideal) (blockAt c x) k (ix2 r l) = Cert.ReferenceIdeal.Read.val_main_v0 (F := Ideal) x (ix4 (halfOf c) k r l) := by
  unfold chunkOf
  rw [block_at, Cert.ReferenceIdeal.Read.val_main_v0_apply]
  refine congrArg x (funext fun a => Fin.ext ?_)
  match a with
  | ⟨0, _⟩ =>
    show (halfOf c).val * 4096 + (512 * k.val + 1 * r.val) = ((((halfOf c).val * 8 + k.val) * 512 + r.val) * 2048 + l.val) / 2048
    omega
  | ⟨1, _⟩ =>
    show 0 + 1 * l.val = ((((halfOf c).val * 8 + k.val) * 512 + r.val) * 2048 + l.val) % 2048
    omega

/-- Device `c`'s half of the reference's result is its peer's block of `x`, quantised and dequantised. -/
theorem result_at (c : Fin 8) (x : FVec Ideal Cert.ReferenceIdeal.S8192x2048 .f32) :
    throughAll (F := Ideal) (blockAt (peer c) x) = blockAt c (Cert.ReferenceIdeal.Read.val_main_v27 (F := Ideal) x swap) := by
  funext i
  have hi : Cert.ReferenceIdeal.Read.idx_main_v27 (rowIn (halfOf c) i)
      = ix4 (halfOf c) (kOf i) (⟨(i 0).val % 512, Nat.mod_lt _ (by decide)⟩ : Fin 512) (i 1) := by
    have h0 : (i 0).val < 4096 := (i 0).isLt
    have h1 : (i 1).val < 2048 := (i 1).isLt
    funext a
    refine Fin.ext ?_
    match a with
    | ⟨0, _⟩ =>
      show (((halfOf c).val * 4096 + (i 0).val) * 2048 + (i 1).val) / 8388608 = (halfOf c).val
      omega
    | ⟨1, _⟩ =>
      show (((halfOf c).val * 4096 + (i 0).val) * 2048 + (i 1).val) / 1048576 % 8 = (i 0).val / 512
      omega
    | ⟨2, _⟩ =>
      show (((halfOf c).val * 4096 + (i 0).val) * 2048 + (i 1).val) / 2048 % 512 = (i 0).val % 512
      omega
    | ⟨3, _⟩ =>
      show (((halfOf c).val * 4096 + (i 0).val) * 2048 + (i 1).val) % 2048 = (i 1).val
      omega
  have hj : jOf i = ix2 (⟨(i 0).val % 512, Nat.mod_lt _ (by decide)⟩ : Fin 512) (i 1) := by
    funext a
    match a with
    | ⟨0, _⟩ => rfl
    | ⟨1, _⟩ => rfl
  have hc : ∀ l : Fin 2048, colOf (chunkOf (F := Ideal) (blockAt (peer c) x) (kOf i)) l
      = colAt (Cert.ReferenceIdeal.Read.val_main_v0 (F := Ideal) x) (across (halfOf c)) (kOf i) l := fun l => funext fun r => by
    unfold colOf colAt
    rw [chunk_at, half_peer]
  rw [block_at, Cert.ReferenceIdeal.Read.val_main_v27_apply, hi]
  refine Eq.trans ?_ (ref_at x (halfOf c) (kOf i) _ (i 1)).symm
  unfold throughAll
  rw [through_apply, hj]
  refine congrArg₂ elem ?_ (congrArg colMax (hc (i 1)))
  exact (chunk_at (peer c) x (kOf i) _ (i 1)).trans (by rw [half_peer])

end Join

/-! ## The claim -/

theorem algebraic : Cert.algebraic_KernelIdeal_ReferenceIdeal (hKernelIdeal := Cert.KernelIdeal.Gen.facts)
    (hReferenceIdeal := Cert.ReferenceIdeal.Gen.facts) (hPre_swap_Kernel := Cert.Pre_swap_Kernel.Gen.facts) := by
  intro m g m' g' hpre hin
  have hswap : m' ((0 : Dev Cert.ReferenceIdeal.nD).tc.loc Cert.ReferenceIdeal.main_arg1) = swap := by
    rw [← (hin 0).2]
    exact funext fun i => swap_of_pre _ _ (hpre 0) i
  refine ⟨Cert.ReferenceIdeal.Read.val_main_v27 (F := Ideal)
    (m' ((0 : Dev Cert.ReferenceIdeal.nD).tc.loc Cert.ReferenceIdeal.main_arg0)) swap, ?_, ?_⟩
  · refine (θ_run (Cert.KernelIdeal.defs (F := Ideal)) _ _).mono (fun r h c => ?_)
      (run_main (F := Ideal) m g fun c i => swap_of_pre _ _ (hpre c) i)
    refine And.intro ?_ (h.1 c).2
    refine (h.1 c).1.trans ?_
    have hx : xOf (F := Ideal) m (peer c) = blockAt (peer c) (m' ((0 : Dev Cert.ReferenceIdeal.nD).tc.loc Cert.ReferenceIdeal.main_arg0)) :=
      (hin (peer c)).1
    rw [hx]
    exact result_at c _
  · refine (θ_run (Cert.ReferenceIdeal.defs (F := Ideal)) _ _).mono (fun r h => ?_)
      (Cert.ReferenceIdeal.Value.run (F := Ideal) m' g')
    refine And.intro ?_ (h 0).2
    refine (h 0).1.trans ?_
    rw [← hswap]
    exact Cert.ReferenceIdeal.Read.val_main_v27_eq _ _

end Cert.Exchange
-- ==== Proof.lean ====
/-
The proof of `Cert.Claim`. The frames of the kernel, over the chip's floats and over the extended reals, come from the run of
the whole mesh (`Launch.lean`, read in `Frames.lean`); the reference's from its generated run; nothing is rewritten between
the two readings of the kernel, so `preserves` asks nothing; and `Bridge.lean` matches the kernel's result with the
reference's, device by device.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_swap_Kernel
public import proofs.«01_k».proof.Proof.Gen.Pre_swap_ReferenceIdeal
public import proofs.«01_k».proof.Proof.Frames
public import proofs.«01_k».proof.Proof.Bridge
public import Idealize.ShloMosaic.Adequacy
public import Idealize.ShloMosaic.Init

@[expose] public section

noncomputable section

namespace Cert.Proof

open Cert.Exchange

theorem claim : Cert.Claim := ⟨Cert.Kernel.Gen.facts, Cert.KernelIdeal.Gen.facts, Cert.ReferenceIdeal.Gen.facts,
  Cert.Pre_swap_Kernel.Gen.facts, Cert.Pre_swap_ReferenceIdeal.Gen.facts,
  frame_kernel, frame_kernelIdeal, frame_reference, frame_reference_swap, trivial, algebraic⟩

end Cert.Proof

end
